-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![1024, 8192]⟩ ⟨2, ![1024, 16384]⟩ (Layout.meshBlock [2, 2, 2] ![[], [1]] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v6)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v6) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hReference : Cert.Reference.Facts),
    quiescent_Kernel (hKernel := hKernel)
    ∧ quiescent_Reference (hReference := hReference)
    ∧ bitexact_Kernel_Reference (hKernel := hKernel) (hReference := hReference)
-- ==== Kernel.lean ====
abbrev S1024x8192 : Shape := ⟨2, ![1024, 8192]⟩
abbrev S1024x32 : Shape := ⟨2, ![1024, 32]⟩
abbrev S256x8192 : Shape := ⟨2, ![256, 8192]⟩
abbrev S3x256x32 : Shape := ⟨3, ![3, 256, 32]⟩
abbrev S_ : Shape := ⟨0, ![]⟩
abbrev S2 : Shape := ⟨1, ![2]⟩
abbrev S3 : Shape := ⟨1, ![3]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x256x32 : Shape := ⟨3, ![1, 256, 32]⟩
abbrev S256x32 : Shape := ⟨2, ![256, 32]⟩

abbrev nBuf : Space → Nat
  | .hbm => 2
  | .vmem => 3
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x32, .f32⟩
  | .local _ .vmem, ⟨1, _⟩ => ⟨S256x8192, .f32⟩
  | .local _ .vmem, ⟨2, _⟩ => ⟨S3x256x32, .i32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 8
abbrev τ : Topo := Topo.v7x

variable {F : FTy → Type} [BitOps F]

abbrev grid0 : Pipeline.Grid := .none

def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v11 : BitVec 32 := Scalar.muli v10 c256_i32
  let c0_i32 : BitVec 32 := 0#32
  ![v11.toNat, 0]
def k0_dev1 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v19 : BitVec 32 := Scalar.muli v2 c4_i32_10
  let v20 : BitVec 32 := Scalar.addi c0_i32_11 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_4 v5
  let c2_i32_12 : BitVec 32 := 2#32
  let v21 : BitVec 32 := Scalar.muli v12 c2_i32_12
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v23 : BitVec 32 := Scalar.muli v8 c1_i32_13
  let v24 : BitVec 32 := Scalar.addi v22 v23
  v24.toNat
def k0_dev2 (d0 : Dev nD) : Nat :=
  let c0_i32_16 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_5 v2
  let c4_i32_15 : BitVec 32 := 4#32
  let v25 : BitVec 32 := Scalar.muli v13 c4_i32_15
  let v26 : BitVec 32 := Scalar.addi c0_i32_16 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v27 : BitVec 32 := Scalar.muli v5 c2_i32_17
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v29 : BitVec 32 := Scalar.muli v8 c1_i32_18
  let v30 : BitVec 32 := Scalar.addi v28 v29
  v30.toNat
def k0_dev3 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v31 : BitVec 32 := Scalar.muli v2 c4_i32_20
  let v32 : BitVec 32 := Scalar.addi c0_i32_21 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v33 : BitVec 32 := Scalar.muli v5 c2_i32_22
  let v34 : BitVec 32 := Scalar.addi v32 v33
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_23 : BitVec 32 := 1#32
  let v35 : BitVec 32 := Scalar.muli v14 c1_i32_23
  let v36 : BitVec 32 := Scalar.addi v34 v35
  v36.toNat
def k0_dev4 (d0 : Dev nD) : Nat :=
  let c0_i32_26 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let c4_i32_25 : BitVec 32 := 4#32
  let v37 : BitVec 32 := Scalar.muli v15 c4_i32_25
  let v38 : BitVec 32 := Scalar.addi c0_i32_26 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v39 : BitVec 32 := Scalar.muli v5 c2_i32_27
  let v40 : BitVec 32 := Scalar.addi v38 v39
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let c1_i32_28 : BitVec 32 := 1#32
  let v41 : BitVec 32 := Scalar.muli v16 c1_i32_28
  let v42 : BitVec 32 := Scalar.addi v40 v41
  v42.toNat
def k0_dev5 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v439 : BitVec 32 := Scalar.muli v2 c4_i32_261
  let v440 : BitVec 32 := Scalar.addi c0_i32_262 v439
  let c1_i32_256 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v438 : BitVec 32 := Scalar.subi c1_i32_256 v5
  let c2_i32_263 : BitVec 32 := 2#32
  let v441 : BitVec 32 := Scalar.muli v438 c2_i32_263
  let v442 : BitVec 32 := Scalar.addi v440 v441
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v443 : BitVec 32 := Scalar.muli v8 c1_i32_264
  let v444 : BitVec 32 := Scalar.addi v442 v443
  v444.toNat
def k0_off2 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v11 : BitVec 32 := Scalar.muli v10 c256_i32
  let v530 : Index := Scalar.indexCast v11
  let c0_312 : Index := 0#32
  ![v530.toNat, 0]
def k0_off3 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v11 : BitVec 32 := Scalar.muli v10 c256_i32
  let c0_i32_323 : BitVec 32 := 0#32
  ![v11.toNat, 0]
def k0_dev6 (d0 : Dev nD) : Nat :=
  let c0_i32_320 : BitVec 32 := 0#32
  let c1_i32_313 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v532 : BitVec 32 := Scalar.subi c1_i32_313 v2
  let c4_i32_319 : BitVec 32 := 4#32
  let v536 : BitVec 32 := Scalar.muli v532 c4_i32_319
  let v537 : BitVec 32 := Scalar.addi c0_i32_320 v536
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_321 : BitVec 32 := 2#32
  let v538 : BitVec 32 := Scalar.muli v5 c2_i32_321
  let v539 : BitVec 32 := Scalar.addi v537 v538
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_322 : BitVec 32 := 1#32
  let v540 : BitVec 32 := Scalar.muli v8 c1_i32_322
  let v541 : BitVec 32 := Scalar.addi v539 v540
  v541.toNat
def k0_dev7 (d0 : Dev nD) : Nat :=
  let c0_i32_328 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_327 : BitVec 32 := 4#32
  let v548 : BitVec 32 := Scalar.muli v2 c4_i32_327
  let v549 : BitVec 32 := Scalar.addi c0_i32_328 v548
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_329 : BitVec 32 := 2#32
  let v550 : BitVec 32 := Scalar.muli v5 c2_i32_329
  let v551 : BitVec 32 := Scalar.addi v549 v550
  let c1_i32_314 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v533 : BitVec 32 := Scalar.subi c1_i32_314 v8
  let c1_i32_330 : BitVec 32 := 1#32
  let v552 : BitVec 32 := Scalar.muli v533 c1_i32_330
  let v553 : BitVec 32 := Scalar.addi v551 v552
  v553.toNat
def k0_dev8 (d0 : Dev nD) : Nat :=
  let c0_i32_336 : BitVec 32 := 0#32
  let c1_i32_315 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v534 : BitVec 32 := Scalar.subi c1_i32_315 v2
  let c4_i32_335 : BitVec 32 := 4#32
  let v560 : BitVec 32 := Scalar.muli v534 c4_i32_335
  let v561 : BitVec 32 := Scalar.addi c0_i32_336 v560
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_337 : BitVec 32 := 2#32
  let v562 : BitVec 32 := Scalar.muli v5 c2_i32_337
  let v563 : BitVec 32 := Scalar.addi v561 v562
  let c1_i32_316 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v535 : BitVec 32 := Scalar.subi c1_i32_316 v8
  let c1_i32_338 : BitVec 32 := 1#32
  let v564 : BitVec 32 := Scalar.muli v535 c1_i32_338
  let v565 : BitVec 32 := Scalar.addi v563 v564
  v565.toNat
def k0_off4 (d0 : Dev nD) : Fin 2 → Nat :=
  let c1_i32_313 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v532 : BitVec 32 := Scalar.subi c1_i32_313 v2
  let c2_i32_341 : BitVec 32 := 2#32
  let v572 : BitVec 32 := Scalar.muli v532 c2_i32_341
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v573 : BitVec 32 := Scalar.addi v572 v8
  let c256_i32_342 : BitVec 32 := 256#32
  let v574 : BitVec 32 := Scalar.muli v573 c256_i32_342
  let c0_i32_349 : BitVec 32 := 0#32
  ![v574.toNat, 0]
def k0_off5 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_351 : BitVec 32 := 2#32
  let v585 : BitVec 32 := Scalar.muli v2 c2_i32_351
  let c1_i32_314 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v533 : BitVec 32 := Scalar.subi c1_i32_314 v8
  let v586 : BitVec 32 := Scalar.addi v585 v533
  let c256_i32_352 : BitVec 32 := 256#32
  let v587 : BitVec 32 := Scalar.muli v586 c256_i32_352
  let c0_i32_359 : BitVec 32 := 0#32
  ![v587.toNat, 0]
def k0_off6 (d0 : Dev nD) : Fin 2 → Nat :=
  let c1_i32_315 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v534 : BitVec 32 := Scalar.subi c1_i32_315 v2
  let c2_i32_361 : BitVec 32 := 2#32
  let v598 : BitVec 32 := Scalar.muli v534 c2_i32_361
  let c1_i32_316 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v535 : BitVec 32 := Scalar.subi c1_i32_316 v8
  let v599 : BitVec 32 := Scalar.addi v598 v535
  let c256_i32_362 : BitVec 32 := 256#32
  let v600 : BitVec 32 := Scalar.muli v599 c256_i32_362
  let c0_i32_369 : BitVec 32 := 0#32
  ![v600.toNat, 0]
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S1024x16384 : Shape := ⟨2, ![1024, 16384]⟩
abbrev S1024x32 : Shape := ⟨2, ![1024, 32]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .bf16⟩
  | .hbm, ⟨2, _⟩ => ⟨S1024x16384, .f32⟩
  | .hbm, ⟨3, _⟩ => ⟨S1024x32, .f32⟩
  | .hbm, ⟨4, _⟩ => ⟨S1024x32, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S_, .i32⟩
  | .hbm, ⟨11, _⟩ => ⟨S1024x32, .i32⟩
  | .hbm, ⟨12, _⟩ => ⟨S1024x32, .i32⟩
  | .hbm, ⟨13, _⟩ => ⟨S1024x32, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_values : Ref sig .tc := ⟨.hbm, 3, rfl⟩
abbrev main_indices : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [BitOps F]
-- ==== Proof.Mesh.lean ====
/-
# The protocol of the eight devices

Device `c` has ten semaphore cells: `0` the barrier of the runtime, `1` the load of its rows, `2` and `3` the send and
receive semaphores of the exchange of candidates, `4, 5, 6` the send and `7, 8, 9` the receive semaphores of the three
gather copies. Four devices talk to `c`: its flips along y (peer 0), x (peer 1), z (peer 2) and both x and z (peer 3).

* barrier of `c`: four units, one from each peer. With its unit the y flip hands over its landing slot for the candidates
  (row block 1 of its scratch), and the other three hand over the rows of `c` in their own output buffer.
* load of `c`: paid by `c` itself; the landing delivers the 256 rows of the input that `c` works on.
* `3`: paid by the y flip; the landing delivers its reversed candidates. `2`: the source of the copy back.
* `7 + s`: paid by peer `s + 1`; the landing delivers that peer's finished rows. `4 + s`: a share of the source back.

Everything happens in one round per cell.
-/
module

public import proofs.«01_k».proof.Proof.Gen.Kernel
public import proofs.«01_k».proof.Proof.Gen.Kernel.Skeleton
public import proofs.«01_k».proof.Proof.Gen.Kernel.Launch
public import Idealize.ShloMosaic.Lib.Pipeline.Launch
public import Idealize.ShloMosaic.Lib.Pipeline.Kit
public import Idealize.ShloMosaic.Lib.ViewIndex
public import Idealize.ShloMosaic.Lib.Tactic

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-! ## The resource algebra: the pipeline library's copy and the kernel's own (duties named by `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The peers -/

/-- The bits of the device number that peer `k` flips: y, x, z, both x and z. -/
def flipMask : Fin 4 → ℕ := ![2, 4, 1, 5]

set_option backward.proofsInPublic true in
/-- Peer `k` of device `c`. -/
def peer (k : Fin 4) (c : Dev nD) : Dev nD := ⟨(c.val ^^^ flipMask k) % 8, Nat.mod_lt _ (by decide)⟩

theorem peer_peer (k : Fin 4) (c : Dev nD) : peer k (peer k c) = c := by revert k c; decide

def peerEquiv (k : Fin 4) : Dev nD ≃ Dev nD := ⟨peer k, peer k, peer_peer k, peer_peer k⟩

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))
theorem dev4_eq (c : Dev nD) : (⟨k0_dev4 c, k0_dev4_lt c⟩ : Dev nD) = peer 3 c := Fin.ext ((k0_dev4_eq c).trans (by revert c; decide))
theorem dev5_eq (c : Dev nD) : (⟨k0_dev5 c, k0_dev5_lt c⟩ : Dev nD) = peer 0 c := Fin.ext ((k0_dev5_eq c).trans (by revert c; decide))
theorem dev6_eq (c : Dev nD) : (⟨k0_dev6 c, k0_dev6_lt c⟩ : Dev nD) = peer 1 c := Fin.ext ((k0_dev6_eq c).trans (by revert c; decide))
theorem dev7_eq (c : Dev nD) : (⟨k0_dev7 c, k0_dev7_lt c⟩ : Dev nD) = peer 2 c := Fin.ext ((k0_dev7_eq c).trans (by revert c; decide))
theorem dev8_eq (c : Dev nD) : (⟨k0_dev8 c, k0_dev8_lt c⟩ : Dev nD) = peer 3 c := Fin.ext ((k0_dev8_eq c).trans (by revert c; decide))

/-- The row block of device `c`: the 256 rows from `256 * blockOf c` on. -/
def blockOf (c : Dev nD) : ℕ := 2 * (c.val / 4) + c.val % 2

/-- The device with `c`'s place along y that works on row block `b`. -/
def devAt (c : Dev nD) (b : ℕ) : Dev nD := ⟨(4 * (b / 2 % 2) + 2 * (c.val / 2 % 2) + b % 2) % 8, Nat.mod_lt _ (by decide)⟩

theorem devAt_blockOf (c : Dev nD) : devAt c (blockOf c) = c := by revert c; decide
theorem blockOf_lt (c : Dev nD) : blockOf c < 4 := by revert c; decide
theorem devAt_peer (k : Fin 3) (c : Dev nD) (b : ℕ) (hb : b < 4) : devAt (peer k.succ c) b = devAt c b := by
  have h : ∀ b < 4, ∀ (k : Fin 3) (c : Dev nD), devAt (peer k.succ c) b = devAt c b := by decide
  exact h b hb k c

/-! ## The memrefs -/

abbrev aM : Memref sig .tc .hbm S1024x8192 .f32 := Memref.whole main_arg0
abbrev oM : Memref sig .tc .vmem S1024x32 .f32 := Memref.whole cc0_stg0_0
abbrev xM : Memref sig .tc .vmem S256x8192 .f32 := Memref.whole cc0_scratch0
abbrev cM : Memref sig .tc .vmem S3x256x32 .i32 := Memref.whole cc0_scratch1

/-- The rows of the input that device `c` loads. -/
abbrev srcRows (c : Dev nD) : Memref sig .tc .hbm S256x8192 .f32 :=
  aM.slice (Rect.unit (s := S1024x8192) (k0_off1 c) S256x8192.size (k0_off1_inb c)) (fun _ => rfl)
/-- Row block 1 and row block 2 of the candidates' scratch. -/
abbrev cand1 : Memref sig .tc .vmem S256x32 .i32 :=
  (cM.slice (Rect.unit (s := S3x256x32) ![1, 0, 0] S1x256x32.size inb_S3x256x32_S1x256x32_1_0_0) (fun _ => rfl)).squeeze S256x32 squeezes_S1x256x32_S256x32
abbrev cand2 : Memref sig .tc .vmem S256x32 .i32 :=
  (cM.slice (Rect.unit (s := S3x256x32) ![2, 0, 0] S1x256x32.size inb_S3x256x32_S1x256x32_2_0_0) (fun _ => rfl)).squeeze S256x32 squeezes_S1x256x32_S256x32
/-- Device `c`'s rows of the output buffer. -/
abbrev outRows (c : Dev nD) : Memref sig .tc .vmem S256x32 .f32 :=
  oM.slice (Rect.unit (s := S1024x32) (k0_off3 c) S256x32.size (k0_off3_inb c)) (fun _ => rfl)

/-! ## The cells -/

abbrev barS : Sem sig := (SemArray.scalar (sig.barrier 0 rfl) : Sems sig S_).sem

/-- The semaphore of cell `k`. -/
abbrev csem : Fin 10 → SemLoc sig := fun k => if k = 0 then .reg barS else .dma k
/-- The kernel's own (scoped) semaphores. -/
abbrev osem : Fin 9 → SemLoc sig := fun k => .dma k.succ

abbrev cell (c : Dev nD) (k : Fin 10) : GSem nD τ sig := ((c : Thread nD τ), csem k)
abbrev kcell (ck : Dev nD × Fin 10) : GSem nD τ sig := cell ck.1 ck.2

/-- The credit of the load, of the candidates' copy and of a gather copy. -/
abbrev NX : ℕ := xM.view.dmaCredit
abbrev NY : ℕ := cand1.view.dmaCredit
abbrev NO : ℕ := (outRows 0).view.dmaCredit

theorem NX_pos : 0 < NX := View.dmaCredit_pos _ (by decide)
theorem NY_pos : 0 < NY := View.dmaCredit_pos _ (by decide)
theorem NO_pos : 0 < NO := View.dmaCredit_pos _ (by decide)

theorem NO_eq (c : Dev nD) : (outRows c).view.dmaCredit = NO := rfl

end Cert.KernelProof
-- ==== Proof.Contents.lean ====
/-
# What the buffers hold

The contents the kernel leaves in each buffer, as functions of the input: the 32 rounds of "take the row's largest key
and strike it out" (`keys`, `rowMax`), the candidates of a half and of the half across, and the finished rows.
-/
module

public import proofs.«01_k».proof.Proof.Mesh
public import Idealize.ShloMosaic.Lib.Pipeline.Value
public import Idealize.ShloMosaic.Lib.Pointwise.Index

@[expose] public section

noncomputable section

namespace Cert.KernelProof

open Cert.Kernel Cert.Kernel.Gen
open Idealize.ShloMosaic
open Idealize.ShloMosaic.TcCoe

variable {F : FTy → Type} [BitOps F]
variable (m : (ℓ : Loc nD τ sig) → Buf (Elt F) ℓ)

/-! ## The rounds -/

/-- The smallest word, which marks a key that has been taken. -/
def lowest : IVec S256x8192 32 := broadcast S256x8192 2147483648#32

/-- Each row's largest key. -/
def rowMax (k : IVec S256x8192 32) : IVec S256x1 32 :=
  shapeCast S256x1 (multiReductionI .maxsi [1] S256 k 2147483648#32 reduces_S256x8192_S256 rfl) shapeCasts_S256_S256x1

/-- Where the row's largest key stands. -/
def hits (k : IVec S256x8192 32) : IVec S256x8192 1 := cmpi .eq k (broadcastTo S256x8192 (rowMax k) broadcasts_S256x1_S256x8192)

/-- The keys with each row's largest struck out. -/
def strike (k : IVec S256x8192 32) : IVec S256x8192 32 := select (hits k) lowest k

/-- The keys after `n` rounds. -/
def keys (k : IVec S256x8192 32) : ℕ → IVec S256x8192 32
  | 0 => k
  | n + 1 => strike (keys k n)

/-- The column that round `n` stores. -/
def colOf (k : IVec S256x8192 32) (n : ℕ) : IVec S1x256x1 32 := shapeCast S1x256x1 (rowMax (keys k n)) shapeCasts_S256x1_S1x256x1

/-! ## The kernel's values -/

/-- The place of device `c` along y, as the kernel computes it. -/
abbrev myWord (c : Dev nD) : BitVec 32 := Scalar.remsi (Scalar.divsi (Dev.word c) 2#32) 2#32

/-- The rows device `c` loads. -/
def rowsIn (c : Dev nD) : Vec F S256x8192 .f32 := (srcRows c).view.read (Elt F) (m ((c : Thread nD τ).loc main_arg0))

/-- The keys of device `c`. -/
def key0 (c : Dev nD) : IVec S256x8192 32 := k0_pay1 (F := F) (myWord c) (rowsIn m c)

/-- Row `r`'s `n`-th largest key on device `c`. -/
def nth (c : Dev nD) (n : ℕ) (r : Fin 256) : BitVec 32 := rowMax (keys (key0 m c) n) (ix2 r 0)

/-- The candidates in descending order (row block 0), in ascending order (row block 2). -/
def candA (c : Dev nD) : S3x256x32.Idx → BitVec 32 := fun p => nth m c (p 2).val (p 1)
def candB (c : Dev nD) : S3x256x32.Idx → BitVec 32 := fun p => nth m c (31 - (p 2).val) (p 1)

/-- Row block 0 once `n` columns are stored, row block 2 once `n` are. -/
def upA (c : Dev nD) (f : S3x256x32.Idx → BitVec 32) (n : ℕ) : S3x256x32.Idx → BitVec 32 :=
  fun p => if (p 2).val < n then candA m c p else f p
def upB (c : Dev nD) (f : S3x256x32.Idx → BitVec 32) (n : ℕ) : S3x256x32.Idx → BitVec 32 :=
  fun p => if 31 - (p 2).val < n then candB m c p else f p

/-- The two operands of the merge: the own candidates and those of the device across y. -/
def half0 (c : Dev nD) : IVec S1x256x32 32 := fun q => nth m c (q 2).val (q 1)
def half1 (c : Dev nD) : IVec S1x256x32 32 := fun q => nth m (peer 0 c) (31 - (q 2).val) (q 1)

/-- The merged keys, sorted, with the column bits cleared. -/
def merged (c : Dev nD) : IVec S256x32 32 :=
  k0_pay135 (k0_pay131 (F := F) (half0 m c) (half1 m c)) (iota .tc S256x32 32 [1] iota_S256x32_d1_w32) (k0_pay132 (F := F) (half0 m c) (half1 m c))
    k0_pay133 (k0_pay134 (F := F) (half0 m c) (half1 m c))

def mergedPos (c : Dev nD) : IVec S256x32 1 :=
  k0_pay136 (k0_pay131 (F := F) (half0 m c) (half1 m c)) (iota .tc S256x32 32 [1] iota_S256x32_d1_w32) (k0_pay132 (F := F) (half0 m c) (half1 m c))
    k0_pay133 (k0_pay134 (F := F) (half0 m c) (half1 m c))

/-- Device `c`'s finished rows. -/
def done (c : Dev nD) : FVec F S256x32 .f32 := k0_pay137 (merged m c) (mergedPos m c)

/-- The whole result, the same on the four devices at one place along y. -/
def outC (c : Dev nD) : S1024x32.Idx → F .f32 :=
  fun p => done m (devAt c ((p 0).val / 256)) (ix2 ⟨(p 0).val % 256, Nat.mod_lt _ (by decide)⟩ (p 1))

theorem outC_peer (k : Fin 3) (c : Dev nD) : outC m (peer k.succ c) = outC m c := by
  funext p
  have h : (p 0).val < 1024 := (p 0).isLt
  unfold outC
  rw [devAt_peer k c _ (by omega)]

end Cert.KernelProof
-- ==== Proof.Proto.lean ====
/-
# The schedule of the ten cells

What each landing and each signal hands over (`pay`), how much it pays, what each device owes at launch and the levels
that order the waits: staging, load and send cells at 0, barriers at 1, the candidates' receive cells at 2, the gather's
receive cells at 3.
-/
module

public import proofs.«01_k».proof.Proof.Contents

@[expose] public section

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
local notation "𝕄" => MT nD τ sig Unit (Elt F) ℕ UU ℕ
variable (m : (ℓ : Loc nD τ sig) → Buf (Elt F) ℓ)

/-! ## The pieces of memory that change hands -/

/-- Row block 1, row block 2 of the candidates on device `d`. -/
def cand1Pts (d : Dev nD) (f : Buf (Elt F) (cand1.view.loc (d : Thread nD τ))) : sProp 𝕄 :=
  cand1.view.loc (d : Thread nD τ) ↦[cand1.view.set]{fullShare} f
def cand2Pts (d : Dev nD) (f : Buf (Elt F) (cand2.view.loc (d : Thread nD τ))) : sProp 𝕄 :=
  cand2.view.loc (d : Thread nD τ) ↦[cand2.view.set]{fullShare} f
/-- The rows of device `c` in the output buffer of device `d`, a share of them. -/
def outPts (d c : Dev nD) (q : PosShare TreeShare) (f : Buf (Elt F) ((outRows c).view.loc (d : Thread nD τ))) : sProp 𝕄 :=
  (outRows c).view.loc (d : Thread nD τ) ↦[(outRows c).view.set]{q} f
/-- The rows of the input that device `c` loads; the buffer it loads them into. -/
def srcPts (c : Dev nD) : sProp 𝕄 :=
  (srcRows c).view.loc (c : Thread nD τ) ↦[(srcRows c).view.set]{fullShare} m ((c : Thread nD τ).loc main_arg0)
def xPts (c : Dev nD) (f : Buf (Elt F) (xM.view.loc (c : Thread nD τ))) : sProp 𝕄 :=
  xM.view.loc (c : Thread nD τ) ↦[xM.view.set]{fullShare} f

instance (d : Dev nD) (f) : BI.Storable (upEmb : UEmb _ 𝕄) (cand1Pts (F := F) d f) := by unfold cand1Pts; infer_instance
instance (d : Dev nD) (f) : BI.Storable (upEmb : UEmb _ 𝕄) (cand2Pts (F := F) d f) := by unfold cand2Pts; infer_instance
instance (d c : Dev nD) (q f) : BI.Storable (upEmb : UEmb _ 𝕄) (outPts (F := F) d c q f) := by unfold outPts; infer_instance
instance (c : Dev nD) : BI.Storable (upEmb : UEmb _ 𝕄) (srcPts (F := F) m c) := by unfold srcPts; infer_instance
instance (c : Dev nD) (f) : BI.Storable (upEmb : UEmb _ 𝕄) (xPts (F := F) c f) := by unfold xPts; infer_instance

/-- The shares of the finished rows that the three gather copies read from. -/
def share3 : Fin 3 → PosShare TreeShare := fun
  | ⟨0, _⟩ => fullShare.left
  | ⟨1, _⟩ => fullShare.right.left
  | ⟨_ + 2, _⟩ => fullShare.right.right

/-! ## The schedule -/

/-- The receive cell of peer `k`'s copy: `3` for the y flip, `7`, `8`, `9` for the others. -/
def rcell : Fin 4 → Fin 10 := ![3, 7, 8, 9]

/-- What peer `k` hands over with its unit on the barrier of `c`: the place its copy from `c` lands in. -/
def barPay (c : Dev nD) (k : Fin 4) : sProp 𝕄 :=
  match k with
  | ⟨0, _⟩ => iprop((∃ f, cand1Pts (peer 0 c) f) ∗ reached ER (cell (peer 0 c) 3) 0)
  | ⟨1, _⟩ => iprop((∃ f, outPts (peer 1 c) c fullShare f) ∗ reached ER (cell (peer 1 c) 7) 0)
  | ⟨2, _⟩ => iprop((∃ f, outPts (peer 2 c) c fullShare f) ∗ reached ER (cell (peer 2 c) 8) 0)
  | ⟨_ + 3, _⟩ => iprop((∃ f, outPts (peer 3 c) c fullShare f) ∗ reached ER (cell (peer 3 c) 9) 0)

/-- What a landing on the DMA semaphore `q` of `c` delivers. -/
def dmaPay (c : Dev nD) (q : Fin 10) : sProp 𝕄 :=
  match q with
  | ⟨0, _⟩ => iprop(emp)
  | ⟨1, _⟩ => iprop(xPts c (rowsIn m c) ∗ srcPts m c)
  | ⟨2, _⟩ => cand2Pts c (candB m c)
  | ⟨3, _⟩ => cand1Pts c (candB m (peer 0 c))
  | ⟨4, _⟩ => outPts c c (share3 0) (outC m c)
  | ⟨5, _⟩ => outPts c c (share3 1) (outC m c)
  | ⟨6, _⟩ => outPts c c (share3 2) (outC m c)
  | ⟨7, _⟩ => outPts c (peer 1 c) fullShare (outC m c)
  | ⟨8, _⟩ => outPts c (peer 2 c) fullShare (outC m c)
  | ⟨_ + 9, _⟩ => outPts c (peer 3 c) fullShare (outC m c)

/-- What a landing on the DMA semaphore `q` pays. -/
def dmaAmt (q : Fin 10) : ℕ := if q = 1 then NX else if q = 2 ∨ q = 3 then NY else NO

theorem dmaAmt_pos (q : Fin 10) : 0 < dmaAmt q := by
  unfold dmaAmt; split
  · exact NX_pos
  · split
    · exact NY_pos
    · exact NO_pos

/-- One round, round 0: the barrier's four duties of one unit each, one duty of its copy's credit on every other cell. -/
def sched : Rounds.Schedule (GSem nD τ sig) (Fin 4) 𝕄 where
  duties g r := if r = 0 ∧ g.1.2 = .tc then (match g.2 with | .reg s => if s = barS then Finset.univ else ∅ | .dma q => if q = 0 then ∅ else {0}) else ∅
  unitless _ := False
  amount g _ _ := match g.2 with | .reg _ => 1 | .dma q => dmaAmt q
  payload g _ d := match g.2 with | .reg _ => barPay g.1.1 d | .dma q => dmaPay m g.1.1 q
  amount_pos g _ _ _ := by
    rcases g with ⟨t, s | q⟩
    · exact Nat.one_pos
    · exact dmaAmt_pos q

instance sched_payload_storable (g : GSem nD τ sig) (r : ℕ) (d : Fin 4) :
    BI.Storable (upEmb : UEmb _ 𝕄) ((sched (F := F) m).payload g r d) := by
  rcases g with ⟨t, s | q⟩
  · show BI.Storable upEmb (barPay (F := F) t.1 d)
    unfold barPay
    split <;> infer_instance
  · show BI.Storable upEmb (dmaPay (F := F) m t.1 q)
    unfold dmaPay
    split <;> infer_instance

section Tables
variable (c : Dev nD)

theorem duties_bar : (sched (F := F) m).duties (cell c 0) 0 = Finset.univ := rfl
theorem duties_dma (q : Fin 10) (hq : q ≠ 0) : (sched (F := F) m).duties ((c : Thread nD τ), .dma q) 0 = {0} := by
  dsimp only [sched]
  rw [if_pos ⟨rfl, rfl⟩, if_neg hq]
theorem duties_later (g : GSem nD τ sig) : ∀ r, 1 ≤ r → (sched (F := F) m).duties g r = ∅ :=
  fun r hr => by dsimp only [sched]; rw [if_neg fun h => by omega]

theorem expect_bar : (sched (F := F) m).expect (cell c 0) 0 = 4 := rfl
theorem expect_dma (q : Fin 10) (hq : q ≠ 0) : (sched (F := F) m).expect ((c : Thread nD τ), .dma q) 0 = dmaAmt q := by
  unfold Schedule.expect Schedule.amountOf; rw [duties_dma m c q hq, Finset.sum_singleton]; rfl

theorem rest_bar : bigSep ((sched (F := F) m).duties (cell c 0) 0 \ ∅) (fun d => (sched (F := F) m).payload (cell c 0) 0 d)
    = iprop(barPay c 0 ∗ barPay c 1 ∗ barPay c 2 ∗ barPay c 3) := by
  rw [Finset.sdiff_empty, duties_bar, bigSep_univ_eq_bigSepL [0, 1, 2, 3] (by decide) (by decide)]
  rfl
theorem rest_dma (q : Fin 10) (hq : q ≠ 0) :
    bigSep ((sched (F := F) m).duties ((c : Thread nD τ), .dma q) 0 \ ∅) (fun d => (sched (F := F) m).payload ((c : Thread nD τ), .dma q) 0 d) = dmaPay m c q := by
  rw [Finset.sdiff_empty, duties_dma m c q hq, bigSep_singleton]; rfl

end Tables

/-! ## What each device owes at launch -/

def owe8 (c : Dev nD) : CellTallies nD τ sig Unit := tallyAt (cell (peer 3 c) 9) () NO
def owe7 (c : Dev nD) : CellTallies nD τ sig Unit := owe8 c + tallyAt (cell (peer 2 c) 8) () NO
def owe6 (c : Dev nD) : CellTallies nD τ sig Unit := owe7 c + tallyAt (cell (peer 1 c) 7) () NO
def owe5 (c : Dev nD) : CellTallies nD τ sig Unit := owe6 c + tallyAt (cell (peer 0 c) 3) () NY
def owe4 (c : Dev nD) : CellTallies nD τ sig Unit := owe5 c + tallyAt (cell (peer 3 c) 0) () 1
def owe3 (c : Dev nD) : CellTallies nD τ sig Unit := owe4 c + tallyAt (cell (peer 2 c) 0) () 1
def owe2 (c : Dev nD) : CellTallies nD τ sig Unit := owe3 c + tallyAt (cell (peer 1 c) 0) () 1
def owe1 (c : Dev nD) : CellTallies nD τ sig Unit := owe2 c + tallyAt (cell (peer 0 c) 0) () 1

/-! ## The levels -/

def L (g : GSem nD τ sig) : Finset Unit := if g.1.2 = .tc then {()} else ∅
def lvOf (s : SemLoc sig) : ℕ := match s with | .reg _ => 1 | .dma q => if q.val = 3 then 2 else if 7 ≤ q.val then 3 else 0
def lv (g : GSem nD τ sig) (_ : Unit) : ℕ := lvOf g.2

theorem L_of_ne (g : GSem nD τ sig) (h : g.1.2 ≠ .tc) : L g = ∅ := if_neg h

/-- Everything owed in `O` is above level `n`. -/
def Above (n : ℕ) (O : CellTallies nD τ sig Unit) : Prop := ∀ g u, 0 < O g u → n < lvOf g.2 ∧ g.1.2 = .tc

theorem Above.zero (n : ℕ) : Above n 0 := fun g u h => absurd h (Nat.lt_irrefl 0)
theorem Above.tally {n : ℕ} (c : Dev nD) (k : Fin 10) (N : ℕ) (h : n < lvOf (csem k)) : Above n (tallyAt (cell c k) () N) := fun g u hg => by
  rw [tallyAt_apply] at hg
  by_cases h' : g = cell c k ∧ u = ()
  · rw [h'.1]; exact ⟨h, rfl⟩
  · rw [if_neg h'] at hg; exact absurd hg (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0

theorem mayWait (c : Dev nD) (s : SemLoc sig) (n : ℕ) (hs : lvOf s ≤ n) {O : CellTallies nD τ sig Unit} (hO : Above n O) :
    (levAts L lv : sProp 𝕄) ⊢ MayWait (c : Thread nD τ) s () O :=
  MayOwe.of_cut (L := L) (lev := lv) n
    (fun p hp => by rw [Finset.mem_singleton.mp hp]; exact Finset.mem_singleton_self _)
    (fun g u hg => by rw [show L g = {()} from if_pos (hO g u hg).2]; exact Finset.mem_singleton_self _)
    (fun p hp => by rw [Finset.mem_singleton.mp hp]; exact hs)
    (fun g u hg => (hO g u hg).1)

theorem above_owe8 (c : Dev nD) : Above 2 (owe8 c) := Above.tally _ _ _ (by decide)
theorem above_owe6 (c : Dev nD) : Above 2 (owe6 c) := ((above_owe8 c).add (Above.tally _ _ _ (by decide))).add (Above.tally _ _ _ (by decide))
theorem Above.mono {n n' : ℕ} (h : n ≤ n') {O : CellTallies nD τ sig Unit} (hO : Above n' O) : Above n O := fun g u hg =>
  ⟨Nat.lt_of_le_of_lt h (hO g u hg).1, (hO g u hg).2⟩
theorem above_owe5 (c : Dev nD) : Above 1 (owe5 c) := ((above_owe6 c).mono (by decide)).add (Above.tally _ _ _ (by decide))
theorem above_owe1 (c : Dev nD) : Above 0 (owe1 c) :=
  (((((above_owe5 c).mono (by decide)).add (Above.tally _ _ _ (by decide))).add (Above.tally _ _ _ (by decide))).add (Above.tally _ _ _ (by decide))).add
    (Above.tally _ _ _ (by decide))

/-! ## The ghost state -/

/-- The invariants of all the cells, under the names `K`, and that each is at round 0. -/
def records (K : Dev nD × Fin 10 → ℕ) : sProp 𝕄 :=
  iprop((bigSep Finset.univ fun ck : Dev nD × Fin 10 => cellInv ER (sched m) (K ck) (kcell ck))
    ∗ bigSep Finset.univ fun ck : Dev nD × Fin 10 => reached ER (kcell ck) 0)

instance records_persistent (K : Dev nD × Fin 10 → ℕ) : BI.Persistent (records m K) := by unfold records; infer_instance

theorem inv_at (K : Dev nD × Fin 10 → ℕ) (c : Dev nD) (k : Fin 10) : records m K ⊢ cellInv ER (sched m) (K (c, k)) (cell c k) := by
  have h : (bigSep Finset.univ fun ck : Dev nD × Fin 10 => (cellInv ER (sched m) (K ck) (kcell ck) : sProp 𝕄)) ⊢ cellInv ER (sched m) (K (c, k)) (cell c k) :=
    bigSep_elim (Finset.mem_univ (c, k))
  unfold records
  iintro ⟨HI, -⟩
  iapply h
  iexact HI
theorem reached_at (K : Dev nD × Fin 10 → ℕ) (c : Dev nD) (k : Fin 10) : records m K ⊢ reached ER (cell c k) 0 := by
  have h : (bigSep Finset.univ fun ck : Dev nD × Fin 10 => (reached ER (kcell ck) 0 : sProp 𝕄)) ⊢ reached ER (cell c k) 0 :=
    bigSep_elim (Finset.mem_univ (c, k))
  unfold records
  iintro ⟨-, HI⟩
  iapply h
  iexact HI

/-- The tokens of the duties that device `c` pays: the four barrier units, its load, the two of the candidates' copy, and
    the two of each gather copy. -/
def payToks (c : Dev nD) : sProp 𝕄 :=
  iprop(dutyTok ER (cell (peer 0 c) 0) 0 0 ∗ dutyTok ER (cell (peer 1 c) 0) 0 1 ∗ dutyTok ER (cell (peer 2 c) 0) 0 2 ∗ dutyTok ER (cell (peer 3 c) 0) 0 3
    ∗ dutyTok ER (cell c 1) 0 0 ∗ dutyTok ER (cell c 2) 0 0 ∗ dutyTok ER (cell (peer 0 c) 3) 0 0
    ∗ dutyTok ER (cell c 4) 0 0 ∗ dutyTok ER (cell c 5) 0 0 ∗ dutyTok ER (cell c 6) 0 0
    ∗ dutyTok ER (cell (peer 1 c) 7) 0 0 ∗ dutyTok ER (cell (peer 2 c) 8) 0 0 ∗ dutyTok ER (cell (peer 3 c) 9) 0 0)

/-- Device `c`'s positions at round 0 of its own ten cells. -/
def poss (c : Dev nD) : sProp 𝕄 :=
  iprop(atPos ER (cell c 0) 0 ∅ 0 ∗ atPos ER (cell c 1) 0 ∅ 0 ∗ atPos ER (cell c 2) 0 ∅ 0 ∗ atPos ER (cell c 3) 0 ∅ 0 ∗ atPos ER (cell c 4) 0 ∅ 0
    ∗ atPos ER (cell c 5) 0 ∅ 0 ∗ atPos ER (cell c 6) 0 ∅ 0 ∗ atPos ER (cell c 7) 0 ∅ 0 ∗ atPos ER (cell c 8) 0 ∅ 0 ∗ atPos ER (cell c 9) 0 ∅ 0)

def ghost (K : Dev nD × Fin 10 → ℕ) (c : Dev nD) : sProp 𝕄 := iprop(records m K ∗ poss c ∗ payToks c)

/-- The credits that a device gets at launch: for its barrier and its four receive cells. -/
def creds0 (c : Dev nD) : sProp 𝕄 :=
  iprop(cred (tallyAt (cell c 0) () 4) ∗ cred (tallyAt (cell c 3) () NY) ∗ cred (tallyAt (cell c 7) () NO) ∗ cred (tallyAt (cell c 8) () NO)
    ∗ cred (tallyAt (cell c 9) () NO))

end Cert.KernelProof
-- ==== Proof.Pieces.lean ====
/-
# Cutting the buffers and reading what landed

The candidates' scratch is its three row blocks, the output buffer the rows of the four devices at one place along y. What
a copy writes into a piece, and what a store writes, as the contents of `Contents`.
-/
module

public import proofs.«01_k».proof.Proof.Proto

@[expose] public section

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
local notation "𝕄" => MT nD τ sig Unit (Elt F) ℕ UU ℕ
variable (m : (ℓ : Loc nD τ sig) → Buf (Elt F) ℓ)

/-! ## The candidates' row blocks -/

/-- Row block `b` of the candidates' scratch. -/
def candSet (b : ℕ) : Finset S3x256x32.Idx := Finset.univ.filter fun p => (p 0).val = b

theorem rect_candSet (b : ℕ) (inb : ∀ a, (![b, 0, 0] : Fin 3 → ℕ) a + S1x256x32.size a ≤ S3x256x32.size a) :
    (Rect.unit (s := S3x256x32) ![b, 0, 0] S1x256x32.size inb).set = candSet b := by
  ext p
  rw [Rect.mem_set_unit, candSet, Finset.mem_filter, Fin.forall_fin_succ, Fin.forall_fin_succ, Fin.forall_fin_succ]
  have h1 : (p 1).val < 256 := (p 1).isLt
  have h2 : (p 2).val < 32 := (p 2).isLt
  show (b ≤ (p 0).val ∧ (p 0).val < b + 1) ∧ (0 ≤ (p 1).val ∧ (p 1).val < 0 + 256) ∧ (0 ≤ (p 2).val ∧ (p 2).val < 0 + 32) ∧ _ ↔ _
  constructor
  · rintro ⟨h, -⟩; exact ⟨Finset.mem_univ _, by omega⟩
  · rintro ⟨-, h⟩; exact ⟨by omega, by omega, by omega, fun i => i.elim0⟩

theorem cand1_set : cand1.view.set = candSet 1 := by
  rw [← rect_candSet 1 inb_S3x256x32_S1x256x32_1_0_0]
  show (View.reshape _ _ _).set = _
  rw [View.set_reshape]; exact View.set_slice_whole _ _
theorem cand2_set : cand2.view.set = candSet 2 := by
  rw [← rect_candSet 2 inb_S3x256x32_S1x256x32_2_0_0]
  show (View.reshape _ _ _).set = _
  rw [View.set_reshape]; exact View.set_slice_whole _ _

/-- A row block of the candidates on device `d`. -/
def candPts (d : Dev nD) (b : ℕ) (f : Buf (Elt F) (cM.view.loc (d : Thread nD τ))) : sProp 𝕄 :=
  cM.view.loc (d : Thread nD τ) ↦[candSet b]{fullShare} f

theorem cand1Pts_eq (d : Dev nD) (f : Buf (Elt F) (cM.view.loc (d : Thread nD τ))) : cand1Pts d f = candPts d 1 f := by
  unfold cand1Pts candPts; rw [cand1_set]
theorem cand2Pts_eq (d : Dev nD) (f : Buf (Elt F) (cM.view.loc (d : Thread nD τ))) : cand2Pts d f = candPts d 2 f := by
  unfold cand2Pts candPts; rw [cand2_set]

theorem candPts_congr (d : Dev nD) (b : ℕ) (f g : Buf (Elt F) (cM.view.loc (d : Thread nD τ))) (h : ∀ p : S3x256x32.Idx, (p 0).val = b → f p = g p) :
    candPts d b f = candPts d b g :=
  pointsTo_congr fun i hi => h i (Finset.mem_filter.mp hi).2

theorem candSet_cover : candSet 0 ∪ (candSet 1 ∪ candSet 2) = Finset.univ := by
  ext p
  have h : (p 0).val < 3 := (p 0).isLt
  simp only [candSet, Finset.mem_union, Finset.mem_filter, Finset.mem_univ, true_and, iff_true]
  omega
theorem candSet_disj (a b : ℕ) (h : a ≠ b) : Disjoint (candSet a) (candSet b) := by
  rw [Finset.disjoint_left]; intro p hp hq
  exact h ((Finset.mem_filter.mp hp).2.symm.trans (Finset.mem_filter.mp hq).2)

theorem cand_split (d : Dev nD) (f : Buf (Elt F) ((d : Thread nD τ).loc cc0_scratch1)) :
    (((d : Thread nD τ).loc cc0_scratch1) ↦{fullShare} f : sProp 𝕄) ⊢ iprop(candPts d 0 f ∗ candPts d 1 f ∗ candPts d 2 f) := by
  unfold candPts
  rw [show (Finset.univ : Finset (Idx ((d : Thread nD τ).loc cc0_scratch1))) = candSet 0 ∪ (candSet 1 ∪ candSet 2) from candSet_cover.symm]
  refine (pointsTo_union (Finset.disjoint_union_right.mpr ⟨candSet_disj 0 1 (by decide), candSet_disj 0 2 (by decide)⟩)).1.trans (sep_mono_right ?_)
  exact (pointsTo_union (candSet_disj 1 2 (by decide))).1

theorem cand_join (d : Dev nD) (f g h : Buf (Elt F) (cM.view.loc (d : Thread nD τ))) :
    (iprop(candPts d 0 f ∗ candPts d 1 g ∗ candPts d 2 h) : sProp 𝕄) ⊢ iprop(∃ f, ((d : Thread nD τ).loc cc0_scratch1) ↦{fullShare} f) := by
  have e : (iprop(candPts d 0 f ∗ candPts d 1 g ∗ candPts d 2 h) : sProp 𝕄)
      ⊢ cM.view.loc (d : Thread nD τ) ↦[candSet 0 ∪ (candSet 1 ∪ candSet 2)]{fullShare} ((candSet 1 ∪ candSet 2).piecewise ((candSet 2).piecewise h g) f) := by
    unfold candPts
    exact (sep_mono_right (pointsTo_join (candSet_disj 1 2 (by decide)))).trans
      (pointsTo_join (Finset.disjoint_union_right.mpr ⟨candSet_disj 0 1 (by decide), candSet_disj 0 2 (by decide)⟩))
  refine e.trans ?_
  rw [candSet_cover]
  iintro H; iexists _; iexact H

/-- What the candidates' copy leaves in row block 1 of the device across y. -/
theorem cand_landed (c : Dev nD) (fd : Buf (Elt F) (cand1.view.loc (peer 0 c : Thread nD τ))) :
    (cand1.view.loc (peer 0 c : Thread nD τ) ↦[cand1.view.set]{fullShare} (cand1.view.write (Elt F) fd (cand2.view.read (Elt F) (candB m c)) Finset.univ) : sProp 𝕄)
      = cand1Pts (peer 0 c) (candB m (peer 0 (peer 0 c))) := by
  unfold cand1Pts
  refine pointsTo_congr fun i hi => ?_
  obtain ⟨x, -, rfl⟩ := Finset.mem_map.mp hi
  rw [peer_peer, View.write_emb, if_pos (Finset.mem_univ _), View.read_apply]
  have h1 : (cand1.view.emb x : S3x256x32.Idx) 1 = (cand2.view.emb x : S3x256x32.Idx) 1 := rfl
  have h2 : (cand1.view.emb x : S3x256x32.Idx) 2 = (cand2.view.emb x : S3x256x32.Idx) 2 := rfl
  refine (cast_eq _ _).trans ((cast_eq _ _).trans ?_)
  unfold candB; rw [h1, h2]

/-! ## The output rows -/

/-- The rows of block `b`. -/
def rowSet (b : ℕ) : Finset S1024x32.Idx := Finset.univ.filter fun p => (p 0).val / 256 = b

theorem off3_eq (c : Dev nD) : k0_off3 c = ![256 * blockOf c, 0] :=
  (k0_off3_eq c).trans (by revert c; decide)

theorem outRows_set (c : Dev nD) : (outRows c).view.set = rowSet (blockOf c) := by
  have h : (outRows c).view.set = (Rect.unit (s := S1024x32) (k0_off3 c) S256x32.size (k0_off3_inb c)).set := View.set_slice_whole _ _
  rw [h]
  ext p
  rw [Rect.mem_set_unit, rowSet, Finset.mem_filter, Fin.forall_fin_succ, Fin.forall_fin_succ]
  simp only [off3_eq]
  have h1 : (p 1).val < 32 := (p 1).isLt
  show (256 * blockOf c ≤ (p 0).val ∧ (p 0).val < 256 * blockOf c + 256) ∧ (0 ≤ (p 1).val ∧ (p 1).val < 0 + 32) ∧ _ ↔ _
  constructor
  · rintro ⟨h, -⟩; exact ⟨Finset.mem_univ _, by omega⟩
  · rintro ⟨-, h⟩; exact ⟨by omega, by omega, fun i => i.elim0⟩

theorem blocks_cover (c : Dev nD) (n : ℕ) (hn : n < 4) :
    n = blockOf c ∨ n = blockOf (peer 1 c) ∨ n = blockOf (peer 2 c) ∨ n = blockOf (peer 3 c) := by
  have h : ∀ c : Dev nD, ∀ n < 4, n = blockOf c ∨ n = blockOf (peer 1 c) ∨ n = blockOf (peer 2 c) ∨ n = blockOf (peer 3 c) := by decide
  exact h c n hn
theorem blocks_ne (c : Dev nD) : blockOf c ≠ blockOf (peer 1 c) ∧ blockOf c ≠ blockOf (peer 2 c) ∧ blockOf c ≠ blockOf (peer 3 c)
    ∧ blockOf (peer 1 c) ≠ blockOf (peer 2 c) ∧ blockOf (peer 1 c) ≠ blockOf (peer 3 c) ∧ blockOf (peer 2 c) ≠ blockOf (peer 3 c) := by
  revert c; decide

theorem rowSet_disj (a b : ℕ) (h : a ≠ b) : Disjoint (rowSet a) (rowSet b) := by
  rw [Finset.disjoint_left]; intro p hp hq
  exact h ((Finset.mem_filter.mp hp).2.symm.trans (Finset.mem_filter.mp hq).2)

theorem rowSet_cover (c : Dev nD) :
    rowSet (blockOf c) ∪ (rowSet (blockOf (peer 1 c)) ∪ (rowSet (blockOf (peer 2 c)) ∪ rowSet (blockOf (peer 3 c)))) = Finset.univ := by
  ext p
  have h : (p 0).val < 1024 := (p 0).isLt
  simp only [rowSet, Finset.mem_union, Finset.mem_filter, Finset.mem_univ, true_and, iff_true]
  exact blocks_cover c _ (by omega)

/-- The output buffer is the rows of the device and of its three peers at the same place along y. -/
theorem out_split (c : Dev nD) (f : Buf (Elt F) ((c : Thread nD τ).loc cc0_stg0_0)) :
    (((c : Thread nD τ).loc cc0_stg0_0) ↦{fullShare} f : sProp 𝕄)
      ⊣⊢ iprop(outPts c c fullShare f ∗ outPts c (peer 1 c) fullShare f ∗ outPts c (peer 2 c) fullShare f ∗ outPts c (peer 3 c) fullShare f) := by
  obtain ⟨h1, h2, h3, h4, h5, h6⟩ := blocks_ne c
  unfold outPts
  rw [outRows_set, outRows_set, outRows_set, outRows_set,
    show (Finset.univ : Finset (Idx ((c : Thread nD τ).loc cc0_stg0_0))) = _ from (rowSet_cover c).symm]
  have e1 := pointsTo_union (ℓ := (c : Thread nD τ).loc cc0_stg0_0) (Ix := Unit) (Name := ℕ) (U := UU) (Lvl := ℕ) (q := fullShare) (f := f)
    (Finset.disjoint_union_right.mpr ⟨rowSet_disj _ _ h1, Finset.disjoint_union_right.mpr ⟨rowSet_disj _ _ h2, rowSet_disj _ _ h3⟩⟩)
  have e2 := pointsTo_union (ℓ := (c : Thread nD τ).loc cc0_stg0_0) (Ix := Unit) (Name := ℕ) (U := UU) (Lvl := ℕ) (q := fullShare) (f := f)
    (Finset.disjoint_union_right.mpr ⟨rowSet_disj _ _ h4, rowSet_disj _ _ h5⟩)
  have e3 := pointsTo_union (ℓ := (c : Thread nD τ).loc cc0_stg0_0) (Ix := Unit) (Name := ℕ) (U := UU) (Lvl := ℕ) (q := fullShare) (f := f)
    (rowSet_disj _ _ h6)
  exact ⟨e1.1.trans (sep_mono_right (e2.1.trans (sep_mono_right e3.1))), (sep_mono_right ((sep_mono_right e3.2).trans e2.2)).trans e1.2⟩

/-- A device's finished rows in three shares. -/
theorem out_shares (c : Dev nD) (f : Buf (Elt F) ((outRows c).view.loc (c : Thread nD τ))) :
    (outPts c c fullShare f : sProp 𝕄) ⊣⊢ iprop(outPts c c (share3 0) f ∗ outPts c c (share3 1) f ∗ outPts c c (share3 2) f) := by
  unfold outPts
  have e1 := pointsTo_share (ℓ := (outRows c).view.loc (c : Thread nD τ)) (I := (outRows c).view.set) (Ix := Unit) (Name := ℕ) (U := UU) (Lvl := ℕ) (f := f)
    (PosShare.mem_left_op_right fullShare)
  have e2 := pointsTo_share (ℓ := (outRows c).view.loc (c : Thread nD τ)) (I := (outRows c).view.set) (Ix := Unit) (Name := ℕ) (U := UU) (Lvl := ℕ) (f := f)
    (PosShare.mem_left_op_right fullShare.right)
  exact ⟨e1.1.trans (sep_mono_right e2.1), (sep_mono_right e2.2).trans e1.2⟩

/-- What a gather copy leaves in the peer's output buffer. -/
theorem out_landed (k : Fin 3) (c : Dev nD) (fd : Buf (Elt F) ((outRows c).view.loc (peer k.succ c : Thread nD τ))) :
    ((outRows c).view.loc (peer k.succ c : Thread nD τ) ↦[(outRows c).view.set]{fullShare}
        ((outRows c).view.write (Elt F) fd ((outRows c).view.read (Elt F) (outC m c)) Finset.univ) : sProp 𝕄)
      = outPts (peer k.succ c) c fullShare (outC m (peer k.succ c)) := by
  unfold outPts
  refine pointsTo_congr fun i hi => ?_
  obtain ⟨x, -, rfl⟩ := Finset.mem_map.mp hi
  rw [outC_peer, View.write_emb, if_pos (Finset.mem_univ _), View.read_apply]
  rfl

/-- What the store of the finished rows leaves. -/
theorem out_stored (c : Dev nD) (f : Buf (Elt F) ((outRows c).view.loc (c : Thread nD τ))) (w : FVec F S256x32 .f32) (hw : w = done m c) :
    ((outRows c).view.loc (c : Thread nD τ) ↦[(outRows c).view.set]{fullShare} ((outRows c).view.write (Elt F) f w Finset.univ) : sProp 𝕄)
      = outPts c c fullShare (outC m c) := by
  subst hw
  unfold outPts
  refine pointsTo_congr fun i hi => ?_
  obtain ⟨x, -, rfl⟩ := Finset.mem_map.mp hi
  rw [View.write_emb, if_pos (Finset.mem_univ _)]
  have hx0 : (x 0).val < 256 := (x 0).isLt
  have h0 : (((outRows c).view.emb x : S1024x32.Idx) 0).val = 256 * blockOf c + (x 0).val := by
    show (k0_off3 c) 0 + 1 * (x 0).val = _
    rw [off3_eq, Nat.one_mul]; rfl
  have h1 : ((outRows c).view.emb x : S1024x32.Idx) 1 = x 1 := Fin.ext (by
    show (k0_off3 c) 1 + 1 * (x 1).val = _
    rw [off3_eq, Nat.one_mul]; exact Nat.zero_add _)
  refine (cast_eq _ _).trans ?_
  unfold outC
  have hd : (((outRows c).view.emb x : S1024x32.Idx) 0).val / 256 = blockOf c := by rw [h0]; omega
  have hm : (((outRows c).view.emb x : S1024x32.Idx) 0).val % 256 = (x 0).val := by rw [h0]; omega
  rw [hd, devAt_blockOf]
  refine congrArg (done m c) ?_
  rw [eq_ix2 x]
  refine congrArg₂ ix2 (Fin.ext hm.symm) h1.symm

end Cert.KernelProof
-- ==== Proof.Columns.lean ====
/-
# Storing one column

A round reads the place of a column (the value read is not used) and stores the column there: row block 0 from the first
column on, row block 2 from the last one back.
-/
module

public import proofs.«01_k».proof.Proof.Pieces

@[expose] public section

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
local notation "𝕄" => MT nD τ sig Unit (Elt F) ℕ UU ℕ
variable (m : (ℓ : Loc nD τ sig) → Buf (Elt F) ℓ)

abbrev 𝒱₀ : Variants := Variants.none

/-- The two row blocks that the rounds fill: `a` columns of block 0 and `b` of block 2 are stored. -/
def cols (c : Dev nD) (f0 f2 : S3x256x32.Idx → BitVec 32) (a b : ℕ) : sProp 𝕄 :=
  iprop(candPts c 0 (upA m c f0 a) ∗ candPts c 2 (upB m c f2 b))

/-- Column `j` of row block `b`. -/
abbrev colRect (b j : ℕ) (inb : ∀ a, (![b, 0, j] : Fin 3 → ℕ) a + S1x256x1.size a ≤ S3x256x32.size a) : Rect S3x256x32 :=
  Rect.unit (s := S3x256x32) ![b, 0, j] S1x256x1.size inb

theorem mem_colRect (b j : ℕ) (inb) (p : S3x256x32.Idx) : p ∈ (colRect b j inb).set ↔ (p 0).val = b ∧ (p 2).val = j := by
  rw [Rect.mem_set_unit, Fin.forall_fin_succ, Fin.forall_fin_succ, Fin.forall_fin_succ]
  have h1 : (p 1).val < 256 := (p 1).isLt
  show (b ≤ (p 0).val ∧ (p 0).val < b + 1) ∧ (0 ≤ (p 1).val ∧ (p 1).val < 0 + 256) ∧ (j ≤ (p 2).val ∧ (p 2).val < j + 1) ∧ _ ↔ _
  constructor
  · rintro ⟨h, -, h', -⟩; exact ⟨by omega, by omega⟩
  · rintro ⟨h, h'⟩; exact ⟨by omega, by omega, by omega, fun i => i.elim0⟩

theorem colRect_sub (b j : ℕ) (inb) : (colRect b j inb).set ⊆ candSet b := fun p hp =>
  Finset.mem_filter.mpr ⟨Finset.mem_univ _, ((mem_colRect b j inb p).mp hp).1⟩

theorem access_set (b j : ℕ) (inb) : (cM.access (colRect b j inb)).set = (colRect b j inb).set := View.set_slice_whole _ _

/-- What a store of a column writes. -/
theorem write_col (b j : ℕ) (inb) (f : S3x256x32.Idx → BitVec 32) (k : IVec S256x8192 32) (n : ℕ) (p : S3x256x32.Idx) (hp : (p 0).val = b) :
    (cM.access (colRect b j inb)).write (Elt F) f (colOf k n) Finset.univ p = if (p 2).val = j then rowMax (keys k n) (ix2 (p 1) 0) else f p := by
  by_cases hj : (p 2).val = j
  · rw [if_pos hj]
    have hm : p ∈ (cM.access (colRect b j inb)).set := by rw [access_set]; exact (mem_colRect b j inb p).mpr ⟨hp, hj⟩
    obtain ⟨x, -, rfl⟩ := Finset.mem_map.mp hm
    rw [View.write_emb, if_pos (Finset.mem_univ _)]
    refine (cast_eq _ _).trans ?_
    have h1 : ((cM.access (colRect b j inb)).emb x : S3x256x32.Idx) 1 = x 1 := Fin.ext (by
      show 0 + 1 * (x 1).val = _; omega)
    rw [h1]
    unfold colOf
    refine shapeCast_apply _ _ x (ix2 (x 1) 0) ?_
    have h0 : (x 0).val < 1 := (x 0).isLt
    have h2 : (x 2).val < 1 := (x 2).isLt
    rw [Shape.rowMajor_val_three, Shape.rowMajor_val_two]
    show (x 1).val * 1 + 0 = ((x 0).val * 256 + (x 1).val) * 1 + (x 2).val
    omega
  · rw [if_neg hj, View.write_of_not_mem]
    rw [View.setOn_univ, access_set]
    exact fun h => hj ((mem_colRect b j inb p).mp h).2

/-- The column `i` of row block 0 stored. -/
theorem write_upA (c : Dev nD) (i : ℕ) (inb) (f : S3x256x32.Idx → BitVec 32) (w : IVec S1x256x1 32) (hw : w = colOf (key0 m c) i) :
    candPts c 0 ((cM.access (colRect 0 i inb)).write (Elt F) (upA m c f i) w Finset.univ) = candPts c 0 (upA m c f (i + 1)) := by
  subst hw
  refine candPts_congr c 0 _ _ fun p hp => ?_
  rw [write_col 0 i inb _ _ _ p hp]
  unfold upA candA nth
  by_cases h : (p 2).val = i
  · rw [if_pos h, if_pos (by omega), h]
  · rw [if_neg h]
    by_cases h' : (p 2).val < i
    · rw [if_pos h', if_pos (by omega)]
    · rw [if_neg h', if_neg (by omega)]
/-- The column `31 - i` of row block 2 stored. -/
theorem write_upB (c : Dev nD) (i j : ℕ) (hj : i + j = 31) (inb) (f : S3x256x32.Idx → BitVec 32) (w : IVec S1x256x1 32) (hw : w = colOf (key0 m c) i) :
    candPts c 2 ((cM.access (colRect 2 j inb)).write (Elt F) (upB m c f i) w Finset.univ) = candPts c 2 (upB m c f (i + 1)) := by
  subst hw
  refine candPts_congr c 2 _ _ fun p hp => ?_
  rw [write_col 2 j inb _ _ _ p hp]
  have h2 : (p 2).val < 32 := (p 2).isLt
  unfold upB candB nth
  by_cases h : (p 2).val = j
  · rw [if_pos h, if_pos (by omega), show 31 - (p 2).val = i by omega]
  · rw [if_neg h]
    by_cases h' : 31 - (p 2).val < i
    · rw [if_pos h', if_pos (by omega)]
    · rw [if_neg h', if_neg (by omega)]

/-- A load from row block 0, its value not looked at. -/
theorem loadA {α : Type} {Q : α → sProp 𝕄} {R : sProp 𝕄} {c : Dev nD} {f0 f2 : S3x256x32.Idx → BitVec 32} {a b : ℕ} (j : ℕ) {inb}
    {hl : cM.view.LoadsAt (colRect 0 j inb).toLoadRect} {k : ((colRect 0 j inb).toLoadRect.shape.Idx → Elt F .i32) → Prog (TpuEff nD τ sig (Elt F) Λ₀ .tc) α}
    (h : ∀ v, iprop(cols m c f0 f2 a b ∗ R) ⊢ wp frame (wpE (defs₀ (F := F)) 𝒱₀ (c : Thread nD τ) none) Set.univ (k v) Q) :
    iprop(cols m c f0 f2 a b ∗ R) ⊢ wp frame (wpE (defs₀ (F := F)) 𝒱₀ (c : Thread nD τ) none) Set.univ (.op (.load cM (colRect 0 j inb).toLoadRect hl) k) Q := by
  have e : iprop(cols m c f0 f2 a b ∗ R) = iprop((candPts c 0 (upA m c f0 a) ∗ candPts c 2 (upB m c f2 b)) ∗ R) := rfl
  have g := h (cM.view.readAt (Elt F) (colRect 0 j inb).toLoadRect (upA m c f0 a))
  rw [e] at g ⊢
  unfold candPts at g ⊢
  iintro ⟨⟨H0, H2⟩, HR⟩
  iapply (wp_load_rect 𝒱₀ (c : Thread nD τ) none Set.univ (m := cM) (r := colRect 0 j inb) (by rw [access_set]; exact colRect_sub 0 j inb)) $$ H0
  iintro H0
  iapply g
  isplitl [H0 H2]
  · isplitl [H0] <;> iassumption
  · iexact HR

/-- A load from row block 2, its value not looked at. -/
theorem loadB {α : Type} {Q : α → sProp 𝕄} {R : sProp 𝕄} {c : Dev nD} {f0 f2 : S3x256x32.Idx → BitVec 32} {a b : ℕ} (j : ℕ) {inb}
    {hl : cM.view.LoadsAt (colRect 2 j inb).toLoadRect} {k : ((colRect 2 j inb).toLoadRect.shape.Idx → Elt F .i32) → Prog (TpuEff nD τ sig (Elt F) Λ₀ .tc) α}
    (h : ∀ v, iprop(cols m c f0 f2 a b ∗ R) ⊢ wp frame (wpE (defs₀ (F := F)) 𝒱₀ (c : Thread nD τ) none) Set.univ (k v) Q) :
    iprop(cols m c f0 f2 a b ∗ R) ⊢ wp frame (wpE (defs₀ (F := F)) 𝒱₀ (c : Thread nD τ) none) Set.univ (.op (.load cM (colRect 2 j inb).toLoadRect hl) k) Q := by
  have e : iprop(cols m c f0 f2 a b ∗ R) = iprop((candPts c 0 (upA m c f0 a) ∗ candPts c 2 (upB m c f2 b)) ∗ R) := rfl
  have g := h (cM.view.readAt (Elt F) (colRect 2 j inb).toLoadRect (upB m c f2 b))
  rw [e] at g ⊢
  unfold candPts at g ⊢
  iintro ⟨⟨H0, H2⟩, HR⟩
  iapply (wp_load_rect 𝒱₀ (c : Thread nD τ) none Set.univ (m := cM) (r := colRect 2 j inb) (by rw [access_set]; exact colRect_sub 2 j inb)) $$ H2
  iintro H2
  iapply g
  isplitl [H0 H2]
  · isplitl [H0] <;> iassumption
  · iexact HR

/-- The next column of row block 0 stored. -/
theorem storeA {α : Type} {Q : α → sProp 𝕄} {R : sProp 𝕄} {c : Dev nD} {f0 f2 : S3x256x32.Idx → BitVec 32} {b : ℕ} (i : ℕ) {inb}
    {w : IVec S1x256x1 32} (hw : w = colOf (key0 m c) i) {hx} {hm} {k : PUnit → Prog (TpuEff nD τ sig (Elt F) Λ₀ .tc) α}
    (h : iprop(cols m c f0 f2 (i + 1) b ∗ R) ⊢ wp frame (wpE (defs₀ (F := F)) 𝒱₀ (c : Thread nD τ) none) Set.univ (k ⟨⟩) Q) :
    iprop(cols m c f0 f2 i b ∗ R) ⊢ wp frame (wpE (defs₀ (F := F)) 𝒱₀ (c : Thread nD τ) none) Set.univ (.op (.store cM (colRect 0 i inb) w Finset.univ hx hm) k) Q := by
  have e : ∀ a b : ℕ, iprop(cols m c f0 f2 a b ∗ R) = iprop((candPts c 0 (upA m c f0 a) ∗ candPts c 2 (upB m c f2 b)) ∗ R) := fun _ _ => rfl
  rw [e] at h ⊢
  rw [← write_upA m c i inb f0 w hw] at h
  unfold candPts at h ⊢
  iintro ⟨⟨H0, H2⟩, HR⟩
  iapply (wp_store 𝒱₀ (c : Thread nD τ) none Set.univ (m := cM) (r := colRect 0 i inb) (Mk := Finset.univ) (S := candSet 0) (by rw [View.setOn_univ, access_set]; exact colRect_sub 0 _ inb)) $$ H0
  iintro H0
  iapply h
  isplitl [H0 H2]
  · isplitl [H0] <;> iassumption
  · iexact HR

/-- The next column of row block 2 stored. -/
theorem storeB {α : Type} {Q : α → sProp 𝕄} {R : sProp 𝕄} {c : Dev nD} {f0 f2 : S3x256x32.Idx → BitVec 32} {a : ℕ} (i : ℕ) (j : ℕ) {hj : i + j = 31} {inb}
    {w : IVec S1x256x1 32} (hw : w = colOf (key0 m c) i) {hx} {hm} {k : PUnit → Prog (TpuEff nD τ sig (Elt F) Λ₀ .tc) α}
    (h : iprop(cols m c f0 f2 a (i + 1) ∗ R) ⊢ wp frame (wpE (defs₀ (F := F)) 𝒱₀ (c : Thread nD τ) none) Set.univ (k ⟨⟩) Q) :
    iprop(cols m c f0 f2 a i ∗ R) ⊢ wp frame (wpE (defs₀ (F := F)) 𝒱₀ (c : Thread nD τ) none) Set.univ (.op (.store cM (colRect 2 j inb) w Finset.univ hx hm) k) Q := by
  have e : ∀ a b : ℕ, iprop(cols m c f0 f2 a b ∗ R) = iprop((candPts c 0 (upA m c f0 a) ∗ candPts c 2 (upB m c f2 b)) ∗ R) := fun _ _ => rfl
  rw [e] at h ⊢
  rw [← write_upB m c i j hj inb f2 w hw] at h
  unfold candPts at h ⊢
  iintro ⟨⟨H0, H2⟩, HR⟩
  iapply (wp_store 𝒱₀ (c : Thread nD τ) none Set.univ (m := cM) (r := colRect 2 j inb) (Mk := Finset.univ) (S := candSet 2) (by rw [View.setOn_univ, access_set]; exact colRect_sub 2 _ inb)) $$ H2
  iintro H2
  iapply h
  isplitl [H0 H2]
  · isplitl [H0] <;> iassumption
  · iexact HR

/-- The end of a part: its result is handed on. -/
theorem part_end {α : Type} {Q : α → sProp 𝕄} {P : sProp 𝕄} {c : Dev nD} {v : α} (h : P ⊢ Q v) :
    P ⊢ wp frame (wpE (defs₀ (F := F)) 𝒱₀ (c : Thread nD τ) none) Set.univ (.ret v) Q := by
  rw [wp_ret]
  iintro H
  imodintro
  iapply h
  iexact H

end Cert.KernelProof
-- ==== Proof.PayEqs.lean ====
/-
# The stored columns

The body's payloads of the 32 rounds, read off the values carried from one part to the next: each is the keys after some
round, the rows' largest keys, their places, or the column stored (`Contents`).
-/
module

public import proofs.«01_k».proof.Proof.Contents

@[expose] public section

noncomputable section

namespace Cert.KernelProof

open Cert.Kernel Cert.Kernel.Gen
open Idealize.ShloMosaic

theorem pay4 (k : IVec S256x8192 32) : k0_pay4 (rowMax (keys k 0)) = (colOf k 0) := rfl
theorem pay5 (k : IVec S256x8192 32) : k0_pay5 (keys k 0) (rowMax (keys k 0)) = (keys k 1) := rfl
theorem pay6 (k : IVec S256x8192 32) : k0_pay6 (keys k 0) (rowMax (keys k 0)) = (rowMax (keys k 1)) := by rw [k0_pay6, pay5]; rfl
theorem pay7 (k : IVec S256x8192 32) : k0_pay7 (keys k 0) (rowMax (keys k 0)) = (colOf k 1) := by rw [k0_pay7, pay6]; rfl
theorem pay8 (k : IVec S256x8192 32) : k0_pay8 (keys k 0) (rowMax (keys k 0)) = (colOf k 1) := by rw [k0_pay8, pay6]; rfl
theorem pay9 (k : IVec S256x8192 32) : k0_pay9 (keys k 0) (rowMax (keys k 0)) = (keys k 2) := by rw [k0_pay9, pay5, pay6]; rfl
theorem pay10 (k : IVec S256x8192 32) : k0_pay10 (keys k 0) (rowMax (keys k 0)) = (rowMax (keys k 2)) := by rw [k0_pay10, pay9]; rfl
theorem pay11 (k : IVec S256x8192 32) : k0_pay11 (keys k 0) (rowMax (keys k 0)) = (colOf k 2) := by rw [k0_pay11, pay10]; rfl
theorem pay12 (k : IVec S256x8192 32) : k0_pay12 (keys k 0) (rowMax (keys k 0)) = (colOf k 2) := by rw [k0_pay12, pay10]; rfl
theorem pay13 (k : IVec S256x8192 32) : k0_pay13 (keys k 0) (rowMax (keys k 0)) = (keys k 3) := by rw [k0_pay13, pay9, pay10]; rfl
theorem pay14 (k : IVec S256x8192 32) : k0_pay14 (keys k 0) (rowMax (keys k 0)) = (rowMax (keys k 3)) := by rw [k0_pay14, pay13]; rfl
theorem pay15 (k : IVec S256x8192 32) : k0_pay15 (keys k 0) (rowMax (keys k 0)) = (colOf k 3) := by rw [k0_pay15, pay14]; rfl
theorem pay16 (k : IVec S256x8192 32) : k0_pay16 (rowMax (keys k 3)) = (colOf k 3) := rfl
theorem pay17 (k : IVec S256x8192 32) : k0_pay17 (keys k 3) (rowMax (keys k 3)) = (keys k 4) := rfl
theorem pay18 (k : IVec S256x8192 32) : k0_pay18 (keys k 3) (rowMax (keys k 3)) = (rowMax (keys k 4)) := by rw [k0_pay18, pay17]; rfl
theorem pay19 (k : IVec S256x8192 32) : k0_pay19 (keys k 3) (rowMax (keys k 3)) = (colOf k 4) := by rw [k0_pay19, pay18]; rfl
theorem pay20 (k : IVec S256x8192 32) : k0_pay20 (keys k 3) (rowMax (keys k 3)) = (colOf k 4) := by rw [k0_pay20, pay18]; rfl
theorem pay21 (k : IVec S256x8192 32) : k0_pay21 (keys k 3) (rowMax (keys k 3)) = (keys k 5) := by rw [k0_pay21, pay17, pay18]; rfl
theorem pay22 (k : IVec S256x8192 32) : k0_pay22 (keys k 3) (rowMax (keys k 3)) = (rowMax (keys k 5)) := by rw [k0_pay22, pay21]; rfl
theorem pay23 (k : IVec S256x8192 32) : k0_pay23 (keys k 3) (rowMax (keys k 3)) = (colOf k 5) := by rw [k0_pay23, pay22]; rfl
theorem pay24 (k : IVec S256x8192 32) : k0_pay24 (keys k 3) (rowMax (keys k 3)) = (colOf k 5) := by rw [k0_pay24, pay22]; rfl
theorem pay25 (k : IVec S256x8192 32) : k0_pay25 (keys k 3) (rowMax (keys k 3)) = (keys k 6) := by rw [k0_pay25, pay21, pay22]; rfl
theorem pay26 (k : IVec S256x8192 32) : k0_pay26 (keys k 3) (rowMax (keys k 3)) = (rowMax (keys k 6)) := by rw [k0_pay26, pay25]; rfl
theorem pay27 (k : IVec S256x8192 32) : k0_pay27 (rowMax (keys k 6)) = (colOf k 6) := rfl
theorem pay28 (k : IVec S256x8192 32) : k0_pay28 (rowMax (keys k 6)) = (colOf k 6) := rfl
theorem pay29 (k : IVec S256x8192 32) : k0_pay29 (keys k 6) (rowMax (keys k 6)) = (keys k 7) := rfl
theorem pay30 (k : IVec S256x8192 32) : k0_pay30 (keys k 6) (rowMax (keys k 6)) = (rowMax (keys k 7)) := by rw [k0_pay30, pay29]; rfl
theorem pay31 (k : IVec S256x8192 32) : k0_pay31 (keys k 6) (rowMax (keys k 6)) = (colOf k 7) := by rw [k0_pay31, pay30]; rfl
theorem pay32 (k : IVec S256x8192 32) : k0_pay32 (keys k 6) (rowMax (keys k 6)) = (colOf k 7) := by rw [k0_pay32, pay30]; rfl
theorem pay33 (k : IVec S256x8192 32) : k0_pay33 (keys k 6) (rowMax (keys k 6)) = (keys k 8) := by rw [k0_pay33, pay29, pay30]; rfl
theorem pay34 (k : IVec S256x8192 32) : k0_pay34 (keys k 6) (rowMax (keys k 6)) = (rowMax (keys k 8)) := by rw [k0_pay34, pay33]; rfl
theorem pay35 (k : IVec S256x8192 32) : k0_pay35 (keys k 6) (rowMax (keys k 6)) = (colOf k 8) := by rw [k0_pay35, pay34]; rfl
theorem pay36 (k : IVec S256x8192 32) : k0_pay36 (keys k 6) (rowMax (keys k 6)) = (colOf k 8) := by rw [k0_pay36, pay34]; rfl
theorem pay37 (k : IVec S256x8192 32) : k0_pay37 (keys k 6) (rowMax (keys k 6)) = (hits (keys k 8)) := by rw [k0_pay37, pay33, pay34]; rfl
theorem pay38 (k : IVec S256x8192 32) : k0_pay38 (keys k 8) (hits (keys k 8)) = (keys k 9) := rfl
theorem pay39 (k : IVec S256x8192 32) : k0_pay39 (keys k 8) (hits (keys k 8)) = (rowMax (keys k 9)) := by rw [k0_pay39, pay38]; rfl
theorem pay40 (k : IVec S256x8192 32) : k0_pay40 (keys k 8) (hits (keys k 8)) = (colOf k 9) := by rw [k0_pay40, pay39]; rfl
theorem pay41 (k : IVec S256x8192 32) : k0_pay41 (keys k 8) (hits (keys k 8)) = (colOf k 9) := by rw [k0_pay41, pay39]; rfl
theorem pay42 (k : IVec S256x8192 32) : k0_pay42 (keys k 8) (hits (keys k 8)) = (keys k 10) := by rw [k0_pay42, pay38, pay39]; rfl
theorem pay43 (k : IVec S256x8192 32) : k0_pay43 (keys k 8) (hits (keys k 8)) = (rowMax (keys k 10)) := by rw [k0_pay43, pay42]; rfl
theorem pay44 (k : IVec S256x8192 32) : k0_pay44 (keys k 8) (hits (keys k 8)) = (colOf k 10) := by rw [k0_pay44, pay43]; rfl
theorem pay45 (k : IVec S256x8192 32) : k0_pay45 (keys k 8) (hits (keys k 8)) = (colOf k 10) := by rw [k0_pay45, pay43]; rfl
theorem pay46 (k : IVec S256x8192 32) : k0_pay46 (keys k 8) (hits (keys k 8)) = (keys k 11) := by rw [k0_pay46, pay42, pay43]; rfl
theorem pay47 (k : IVec S256x8192 32) : k0_pay47 (keys k 8) (hits (keys k 8)) = (rowMax (keys k 11)) := by rw [k0_pay47, pay46]; rfl
theorem pay48 (k : IVec S256x8192 32) : k0_pay48 (keys k 8) (hits (keys k 8)) = (colOf k 11) := by rw [k0_pay48, pay47]; rfl
theorem pay49 (k : IVec S256x8192 32) : k0_pay49 (rowMax (keys k 11)) = (colOf k 11) := rfl
theorem pay50 (k : IVec S256x8192 32) : k0_pay50 (keys k 11) (rowMax (keys k 11)) = (keys k 12) := rfl
theorem pay51 (k : IVec S256x8192 32) : k0_pay51 (keys k 11) (rowMax (keys k 11)) = (rowMax (keys k 12)) := by rw [k0_pay51, pay50]; rfl
theorem pay52 (k : IVec S256x8192 32) : k0_pay52 (keys k 11) (rowMax (keys k 11)) = (colOf k 12) := by rw [k0_pay52, pay51]; rfl
theorem pay53 (k : IVec S256x8192 32) : k0_pay53 (keys k 11) (rowMax (keys k 11)) = (colOf k 12) := by rw [k0_pay53, pay51]; rfl
theorem pay54 (k : IVec S256x8192 32) : k0_pay54 (keys k 11) (rowMax (keys k 11)) = (keys k 13) := by rw [k0_pay54, pay50, pay51]; rfl
theorem pay55 (k : IVec S256x8192 32) : k0_pay55 (keys k 11) (rowMax (keys k 11)) = (rowMax (keys k 13)) := by rw [k0_pay55, pay54]; rfl
theorem pay56 (k : IVec S256x8192 32) : k0_pay56 (keys k 11) (rowMax (keys k 11)) = (colOf k 13) := by rw [k0_pay56, pay55]; rfl
theorem pay57 (k : IVec S256x8192 32) : k0_pay57 (keys k 11) (rowMax (keys k 11)) = (colOf k 13) := by rw [k0_pay57, pay55]; rfl
theorem pay58 (k : IVec S256x8192 32) : k0_pay58 (keys k 11) (rowMax (keys k 11)) = (keys k 14) := by rw [k0_pay58, pay54, pay55]; rfl
theorem pay59 (k : IVec S256x8192 32) : k0_pay59 (keys k 11) (rowMax (keys k 11)) = (rowMax (keys k 14)) := by rw [k0_pay59, pay58]; rfl
theorem pay60 (k : IVec S256x8192 32) : k0_pay60 (rowMax (keys k 14)) = (colOf k 14) := rfl
theorem pay61 (k : IVec S256x8192 32) : k0_pay61 (rowMax (keys k 14)) = (colOf k 14) := rfl
theorem pay62 (k : IVec S256x8192 32) : k0_pay62 (keys k 14) (rowMax (keys k 14)) = (keys k 15) := rfl
theorem pay63 (k : IVec S256x8192 32) : k0_pay63 (keys k 14) (rowMax (keys k 14)) = (rowMax (keys k 15)) := by rw [k0_pay63, pay62]; rfl
theorem pay64 (k : IVec S256x8192 32) : k0_pay64 (keys k 14) (rowMax (keys k 14)) = (colOf k 15) := by rw [k0_pay64, pay63]; rfl
theorem pay65 (k : IVec S256x8192 32) : k0_pay65 (keys k 14) (rowMax (keys k 14)) = (colOf k 15) := by rw [k0_pay65, pay63]; rfl
theorem pay66 (k : IVec S256x8192 32) : k0_pay66 (keys k 14) (rowMax (keys k 14)) = (keys k 16) := by rw [k0_pay66, pay62, pay63]; rfl
theorem pay67 (k : IVec S256x8192 32) : k0_pay67 (keys k 14) (rowMax (keys k 14)) = (rowMax (keys k 16)) := by rw [k0_pay67, pay66]; rfl
theorem pay68 (k : IVec S256x8192 32) : k0_pay68 (keys k 14) (rowMax (keys k 14)) = (colOf k 16) := by rw [k0_pay68, pay67]; rfl
theorem pay69 (k : IVec S256x8192 32) : k0_pay69 (keys k 14) (rowMax (keys k 14)) = (colOf k 16) := by rw [k0_pay69, pay67]; rfl
theorem pay70 (k : IVec S256x8192 32) : k0_pay70 (keys k 14) (rowMax (keys k 14)) = (keys k 17) := by rw [k0_pay70, pay66, pay67]; rfl
theorem pay71 (k : IVec S256x8192 32) : k0_pay71 (keys k 17) = (rowMax (keys k 17)) := rfl
theorem pay72 (k : IVec S256x8192 32) : k0_pay72 (keys k 17) = (colOf k 17) := by rw [k0_pay72, pay71]; rfl
theorem pay73 (k : IVec S256x8192 32) : k0_pay73 (keys k 17) = (colOf k 17) := by rw [k0_pay73, pay71]; rfl
theorem pay74 (k : IVec S256x8192 32) : k0_pay74 (keys k 17) = (keys k 18) := by rw [k0_pay74, pay71]; rfl
theorem pay75 (k : IVec S256x8192 32) : k0_pay75 (keys k 17) = (rowMax (keys k 18)) := by rw [k0_pay75, pay74]; rfl
theorem pay76 (k : IVec S256x8192 32) : k0_pay76 (keys k 17) = (colOf k 18) := by rw [k0_pay76, pay75]; rfl
theorem pay77 (k : IVec S256x8192 32) : k0_pay77 (keys k 17) = (colOf k 18) := by rw [k0_pay77, pay75]; rfl
theorem pay78 (k : IVec S256x8192 32) : k0_pay78 (keys k 17) = (keys k 19) := by rw [k0_pay78, pay74, pay75]; rfl
theorem pay79 (k : IVec S256x8192 32) : k0_pay79 (keys k 17) = (rowMax (keys k 19)) := by rw [k0_pay79, pay78]; rfl
theorem pay80 (k : IVec S256x8192 32) : k0_pay80 (keys k 17) = (colOf k 19) := by rw [k0_pay80, pay79]; rfl
theorem pay81 (k : IVec S256x8192 32) : k0_pay81 (keys k 17) = (colOf k 19) := by rw [k0_pay81, pay79]; rfl
theorem pay82 (k : IVec S256x8192 32) : k0_pay82 (keys k 19) (rowMax (keys k 19)) = (keys k 20) := rfl
theorem pay83 (k : IVec S256x8192 32) : k0_pay83 (keys k 19) (rowMax (keys k 19)) = (rowMax (keys k 20)) := by rw [k0_pay83, pay82]; rfl
theorem pay84 (k : IVec S256x8192 32) : k0_pay84 (keys k 19) (rowMax (keys k 19)) = (colOf k 20) := by rw [k0_pay84, pay83]; rfl
theorem pay85 (k : IVec S256x8192 32) : k0_pay85 (keys k 19) (rowMax (keys k 19)) = (colOf k 20) := by rw [k0_pay85, pay83]; rfl
theorem pay86 (k : IVec S256x8192 32) : k0_pay86 (keys k 19) (rowMax (keys k 19)) = (keys k 21) := by rw [k0_pay86, pay82, pay83]; rfl
theorem pay87 (k : IVec S256x8192 32) : k0_pay87 (keys k 19) (rowMax (keys k 19)) = (rowMax (keys k 21)) := by rw [k0_pay87, pay86]; rfl
theorem pay88 (k : IVec S256x8192 32) : k0_pay88 (keys k 19) (rowMax (keys k 19)) = (colOf k 21) := by rw [k0_pay88, pay87]; rfl
theorem pay89 (k : IVec S256x8192 32) : k0_pay89 (keys k 19) (rowMax (keys k 19)) = (colOf k 21) := by rw [k0_pay89, pay87]; rfl
theorem pay90 (k : IVec S256x8192 32) : k0_pay90 (keys k 19) (rowMax (keys k 19)) = (keys k 22) := by rw [k0_pay90, pay86, pay87]; rfl
theorem pay91 (k : IVec S256x8192 32) : k0_pay91 (keys k 19) (rowMax (keys k 19)) = (rowMax (keys k 22)) := by rw [k0_pay91, pay90]; rfl
theorem pay92 (k : IVec S256x8192 32) : k0_pay92 (keys k 19) (rowMax (keys k 19)) = (colOf k 22) := by rw [k0_pay92, pay91]; rfl
theorem pay93 (k : IVec S256x8192 32) : k0_pay93 (rowMax (keys k 22)) = (colOf k 22) := rfl
theorem pay94 (k : IVec S256x8192 32) : k0_pay94 (keys k 22) (rowMax (keys k 22)) = (keys k 23) := rfl
theorem pay95 (k : IVec S256x8192 32) : k0_pay95 (keys k 22) (rowMax (keys k 22)) = (rowMax (keys k 23)) := by rw [k0_pay95, pay94]; rfl
theorem pay96 (k : IVec S256x8192 32) : k0_pay96 (keys k 22) (rowMax (keys k 22)) = (colOf k 23) := by rw [k0_pay96, pay95]; rfl
theorem pay97 (k : IVec S256x8192 32) : k0_pay97 (keys k 22) (rowMax (keys k 22)) = (colOf k 23) := by rw [k0_pay97, pay95]; rfl
theorem pay98 (k : IVec S256x8192 32) : k0_pay98 (keys k 22) (rowMax (keys k 22)) = (keys k 24) := by rw [k0_pay98, pay94, pay95]; rfl
theorem pay99 (k : IVec S256x8192 32) : k0_pay99 (keys k 22) (rowMax (keys k 22)) = (rowMax (keys k 24)) := by rw [k0_pay99, pay98]; rfl
theorem pay100 (k : IVec S256x8192 32) : k0_pay100 (keys k 22) (rowMax (keys k 22)) = (colOf k 24) := by rw [k0_pay100, pay99]; rfl
theorem pay101 (k : IVec S256x8192 32) : k0_pay101 (keys k 22) (rowMax (keys k 22)) = (colOf k 24) := by rw [k0_pay101, pay99]; rfl
theorem pay102 (k : IVec S256x8192 32) : k0_pay102 (keys k 22) (rowMax (keys k 22)) = (keys k 25) := by rw [k0_pay102, pay98, pay99]; rfl
theorem pay103 (k : IVec S256x8192 32) : k0_pay103 (keys k 22) (rowMax (keys k 22)) = (rowMax (keys k 25)) := by rw [k0_pay103, pay102]; rfl
theorem pay104 (k : IVec S256x8192 32) : k0_pay104 (rowMax (keys k 25)) = (colOf k 25) := rfl
theorem pay105 (k : IVec S256x8192 32) : k0_pay105 (rowMax (keys k 25)) = (colOf k 25) := rfl
theorem pay106 (k : IVec S256x8192 32) : k0_pay106 (keys k 25) (rowMax (keys k 25)) = (keys k 26) := rfl
theorem pay107 (k : IVec S256x8192 32) : k0_pay107 (keys k 25) (rowMax (keys k 25)) = (rowMax (keys k 26)) := by rw [k0_pay107, pay106]; rfl
theorem pay108 (k : IVec S256x8192 32) : k0_pay108 (keys k 25) (rowMax (keys k 25)) = (colOf k 26) := by rw [k0_pay108, pay107]; rfl
theorem pay109 (k : IVec S256x8192 32) : k0_pay109 (keys k 25) (rowMax (keys k 25)) = (colOf k 26) := by rw [k0_pay109, pay107]; rfl
theorem pay110 (k : IVec S256x8192 32) : k0_pay110 (keys k 25) (rowMax (keys k 25)) = (keys k 27) := by rw [k0_pay110, pay106, pay107]; rfl
theorem pay111 (k : IVec S256x8192 32) : k0_pay111 (keys k 25) (rowMax (keys k 25)) = (rowMax (keys k 27)) := by rw [k0_pay111, pay110]; rfl
theorem pay112 (k : IVec S256x8192 32) : k0_pay112 (keys k 25) (rowMax (keys k 25)) = (colOf k 27) := by rw [k0_pay112, pay111]; rfl
theorem pay113 (k : IVec S256x8192 32) : k0_pay113 (keys k 25) (rowMax (keys k 25)) = (colOf k 27) := by rw [k0_pay113, pay111]; rfl
theorem pay114 (k : IVec S256x8192 32) : k0_pay114 (keys k 25) (rowMax (keys k 25)) = (hits (keys k 27)) := by rw [k0_pay114, pay110, pay111]; rfl
theorem pay115 : k0_pay115  = lowest := rfl
theorem pay116 (k : IVec S256x8192 32) : k0_pay116 (keys k 27) (hits (keys k 27)) lowest = (keys k 28) := rfl
theorem pay117 (k : IVec S256x8192 32) : k0_pay117 (keys k 27) (hits (keys k 27)) lowest = (rowMax (keys k 28)) := by rw [k0_pay117, pay116]; rfl
theorem pay118 (k : IVec S256x8192 32) : k0_pay118 (keys k 27) (hits (keys k 27)) lowest = (colOf k 28) := by rw [k0_pay118, pay117]; rfl
theorem pay119 (k : IVec S256x8192 32) : k0_pay119 (keys k 27) (hits (keys k 27)) lowest = (colOf k 28) := by rw [k0_pay119, pay117]; rfl
theorem pay120 (k : IVec S256x8192 32) : k0_pay120 (keys k 27) (hits (keys k 27)) lowest = (keys k 29) := by rw [k0_pay120, pay116, pay117]; rfl
theorem pay121 (k : IVec S256x8192 32) : k0_pay121 (keys k 27) (hits (keys k 27)) lowest = (rowMax (keys k 29)) := by rw [k0_pay121, pay120]; rfl
theorem pay122 (k : IVec S256x8192 32) : k0_pay122 (keys k 27) (hits (keys k 27)) lowest = (colOf k 29) := by rw [k0_pay122, pay121]; rfl
theorem pay123 (k : IVec S256x8192 32) : k0_pay123 (keys k 27) (hits (keys k 27)) lowest = (colOf k 29) := by rw [k0_pay123, pay121]; rfl
theorem pay124 (k : IVec S256x8192 32) : k0_pay124 (keys k 27) (hits (keys k 27)) lowest = (keys k 30) := by rw [k0_pay124, pay120, pay121]; rfl
theorem pay125 (k : IVec S256x8192 32) : k0_pay125 (keys k 27) (hits (keys k 27)) lowest = (rowMax (keys k 30)) := by rw [k0_pay125, pay124]; rfl
theorem pay126 (k : IVec S256x8192 32) : k0_pay126 (keys k 27) (hits (keys k 27)) lowest = (colOf k 30) := by rw [k0_pay126, pay125]; rfl
theorem pay127 (k : IVec S256x8192 32) : k0_pay127 (rowMax (keys k 30)) = (colOf k 30) := rfl
theorem pay128 (k : IVec S256x8192 32) : k0_pay128 (keys k 30) (rowMax (keys k 30)) = (rowMax (keys k 31)) := rfl
theorem pay129 (k : IVec S256x8192 32) : k0_pay129 (keys k 30) (rowMax (keys k 30)) = (colOf k 31) := by rw [k0_pay129, pay128]; rfl
theorem pay130 (k : IVec S256x8192 32) : k0_pay130 (keys k 30) (rowMax (keys k 30)) = (colOf k 31) := by rw [k0_pay130, pay128]; rfl

end Cert.KernelProof
-- ==== Proof.Parts.lean ====
/-
# The rounds, part by part

The body's parts that only load and store columns: what each takes of the two row blocks and what it leaves.
-/
module

public import proofs.«01_k».proof.Proof.Columns
public import proofs.«01_k».proof.Proof.PayEqs

@[expose] public section

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
local notation "𝕄" => MT nD τ sig Unit (Elt F) ℕ UU ℕ
variable (m : (ℓ : Loc nD τ sig) → Buf (Elt F) ℓ)

/-- Part 3: 2 columns of row block 0 and 3 of row block 2. -/
theorem part3 {Q : _ → sProp 𝕄} {R : sProp 𝕄} {c : Dev nD} {f0 f2 : S3x256x32.Idx → BitVec 32}
    (h : iprop(cols m c f0 f2 3 3 ∗ R) ⊢ Q ⟨(keys (key0 m c) 3), (rowMax (keys (key0 m c) 3)), (colOf (key0 m c) 3)⟩) :
    iprop(cols m c f0 f2 1 0 ∗ R) ⊢ wp frame (wpE (defs₀ (F := F)) 𝒱₀ (c : Thread nD τ) none) Set.univ
      (k0_part3 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4 cc0_scratch5
        (keys (key0 m c) 0) (rowMax (keys (key0 m c) 0))) Q := by
  rw [k0_part3_eq_skeleton]; unfold k0_part3_skel
  simp only [Prog.lift, Prog.bind_op, Prog.bind_ret, Prog.pure_eq_ret]
  refine storeB m 0 31 (hj := rfl) (pay4 _) ?_
  refine loadA m 1 fun v => ?_
  refine storeA m 1 (pay7 _) ?_
  refine loadB m 30 fun v => ?_
  refine storeB m 1 30 (hj := rfl) (pay8 _) ?_
  refine loadA m 2 fun v => ?_
  refine storeA m 2 (pay11 _) ?_
  refine loadB m 29 fun v => ?_
  refine storeB m 2 29 (hj := rfl) (pay12 _) ?_
  refine loadA m 3 fun v => ?_
  refine part_end ?_
  rw [pay13, pay14, pay15]
  exact h

/-- Part 4: 3 columns of row block 0 and 3 of row block 2. -/
theorem part4 {Q : _ → sProp 𝕄} {R : sProp 𝕄} {c : Dev nD} {f0 f2 : S3x256x32.Idx → BitVec 32}
    (h : iprop(cols m c f0 f2 6 6 ∗ R) ⊢ Q ⟨(keys (key0 m c) 6), (rowMax (keys (key0 m c) 6))⟩) :
    iprop(cols m c f0 f2 3 3 ∗ R) ⊢ wp frame (wpE (defs₀ (F := F)) 𝒱₀ (c : Thread nD τ) none) Set.univ
      (k0_part4 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4 cc0_scratch5
        (keys (key0 m c) 3) (rowMax (keys (key0 m c) 3)) (colOf (key0 m c) 3)) Q := by
  rw [k0_part4_eq_skeleton]; unfold k0_part4_skel
  simp only [Prog.lift, Prog.bind_op, Prog.bind_ret, Prog.pure_eq_ret]
  refine storeA m 3 rfl ?_
  refine loadB m 28 fun v => ?_
  refine storeB m 3 28 (hj := rfl) (pay16 _) ?_
  refine loadA m 4 fun v => ?_
  refine storeA m 4 (pay19 _) ?_
  refine loadB m 27 fun v => ?_
  refine storeB m 4 27 (hj := rfl) (pay20 _) ?_
  refine loadA m 5 fun v => ?_
  refine storeA m 5 (pay23 _) ?_
  refine loadB m 26 fun v => ?_
  refine storeB m 5 26 (hj := rfl) (pay24 _) ?_
  refine part_end ?_
  rw [pay25, pay26]
  exact h

/-- Part 5: 3 columns of row block 0 and 3 of row block 2. -/
theorem part5 {Q : _ → sProp 𝕄} {R : sProp 𝕄} {c : Dev nD} {f0 f2 : S3x256x32.Idx → BitVec 32}
    (h : iprop(cols m c f0 f2 9 9 ∗ R) ⊢ Q ⟨(keys (key0 m c) 8), (hits (keys (key0 m c) 8))⟩) :
    iprop(cols m c f0 f2 6 6 ∗ R) ⊢ wp frame (wpE (defs₀ (F := F)) 𝒱₀ (c : Thread nD τ) none) Set.univ
      (k0_part5 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4 cc0_scratch5
        (keys (key0 m c) 6) (rowMax (keys (key0 m c) 6))) Q := by
  rw [k0_part5_eq_skeleton]; unfold k0_part5_skel
  simp only [Prog.lift, Prog.bind_op, Prog.bind_ret, Prog.pure_eq_ret]
  refine loadA m 6 fun v => ?_
  refine storeA m 6 (pay27 _) ?_
  refine loadB m 25 fun v => ?_
  refine storeB m 6 25 (hj := rfl) (pay28 _) ?_
  refine loadA m 7 fun v => ?_
  refine storeA m 7 (pay31 _) ?_
  refine loadB m 24 fun v => ?_
  refine storeB m 7 24 (hj := rfl) (pay32 _) ?_
  refine loadA m 8 fun v => ?_
  refine storeA m 8 (pay35 _) ?_
  refine loadB m 23 fun v => ?_
  refine storeB m 8 23 (hj := rfl) (pay36 _) ?_
  refine part_end ?_
  rw [pay33, pay37]
  exact h

/-- Part 6: 3 columns of row block 0 and 2 of row block 2. -/
theorem part6 {Q : _ → sProp 𝕄} {R : sProp 𝕄} {c : Dev nD} {f0 f2 : S3x256x32.Idx → BitVec 32}
    (h : iprop(cols m c f0 f2 12 11 ∗ R) ⊢ Q ⟨(keys (key0 m c) 11), (rowMax (keys (key0 m c) 11))⟩) :
    iprop(cols m c f0 f2 9 9 ∗ R) ⊢ wp frame (wpE (defs₀ (F := F)) 𝒱₀ (c : Thread nD τ) none) Set.univ
      (k0_part6 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4 cc0_scratch5
        (keys (key0 m c) 8) (hits (keys (key0 m c) 8))) Q := by
  rw [k0_part6_eq_skeleton]; unfold k0_part6_skel
  simp only [Prog.lift, Prog.bind_op, Prog.bind_ret, Prog.pure_eq_ret]
  refine loadA m 9 fun v => ?_
  refine storeA m 9 (pay40 _) ?_
  refine loadB m 22 fun v => ?_
  refine storeB m 9 22 (hj := rfl) (pay41 _) ?_
  refine loadA m 10 fun v => ?_
  refine storeA m 10 (pay44 _) ?_
  refine loadB m 21 fun v => ?_
  refine storeB m 10 21 (hj := rfl) (pay45 _) ?_
  refine loadA m 11 fun v => ?_
  refine storeA m 11 (pay48 _) ?_
  refine part_end ?_
  rw [pay46, pay47]
  exact h

/-- Part 7: 2 columns of row block 0 and 3 of row block 2. -/
theorem part7 {Q : _ → sProp 𝕄} {R : sProp 𝕄} {c : Dev nD} {f0 f2 : S3x256x32.Idx → BitVec 32}
    (h : ∀ v, iprop(cols m c f0 f2 14 14 ∗ R) ⊢ Q ⟨(keys (key0 m c) 14), (rowMax (keys (key0 m c) 14)), v⟩) :
    iprop(cols m c f0 f2 12 11 ∗ R) ⊢ wp frame (wpE (defs₀ (F := F)) 𝒱₀ (c : Thread nD τ) none) Set.univ
      (k0_part7 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4 cc0_scratch5
        (keys (key0 m c) 11) (rowMax (keys (key0 m c) 11))) Q := by
  rw [k0_part7_eq_skeleton]; unfold k0_part7_skel
  simp only [Prog.lift, Prog.bind_op, Prog.bind_ret, Prog.pure_eq_ret]
  refine loadB m 20 fun v => ?_
  refine storeB m 11 20 (hj := rfl) (pay49 _) ?_
  refine loadA m 12 fun v => ?_
  refine storeA m 12 (pay52 _) ?_
  refine loadB m 19 fun v => ?_
  refine storeB m 12 19 (hj := rfl) (pay53 _) ?_
  refine loadA m 13 fun v => ?_
  refine storeA m 13 (pay56 _) ?_
  refine loadB m 18 fun v => ?_
  refine storeB m 13 18 (hj := rfl) (pay57 _) ?_
  refine loadA m 14 fun v => ?_
  refine part_end ?_
  rw [pay58, pay59]
  exact h v

/-- Part 8: 3 columns of row block 0 and 3 of row block 2. -/
theorem part8 (u : IVec S1x256x1 32) {Q : _ → sProp 𝕄} {R : sProp 𝕄} {c : Dev nD} {f0 f2 : S3x256x32.Idx → BitVec 32}
    (h : iprop(cols m c f0 f2 17 17 ∗ R) ⊢ Q (keys (key0 m c) 17)) :
    iprop(cols m c f0 f2 14 14 ∗ R) ⊢ wp frame (wpE (defs₀ (F := F)) 𝒱₀ (c : Thread nD τ) none) Set.univ
      (k0_part8 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4 cc0_scratch5
        (keys (key0 m c) 14) (rowMax (keys (key0 m c) 14)) u) Q := by
  rw [k0_part8_eq_skeleton]; unfold k0_part8_skel
  simp only [Prog.lift, Prog.bind_op, Prog.bind_ret, Prog.pure_eq_ret]
  refine storeA m 14 (pay60 _) ?_
  refine loadB m 17 fun v => ?_
  refine storeB m 14 17 (hj := rfl) (pay61 _) ?_
  refine loadA m 15 fun v => ?_
  refine storeA m 15 (pay64 _) ?_
  refine loadB m 16 fun v => ?_
  refine storeB m 15 16 (hj := rfl) (pay65 _) ?_
  refine loadA m 16 fun v => ?_
  refine storeA m 16 (pay68 _) ?_
  refine loadB m 15 fun v => ?_
  refine storeB m 16 15 (hj := rfl) (pay69 _) ?_
  refine part_end ?_
  rw [pay70]
  exact h

/-- Part 9: 3 columns of row block 0 and 3 of row block 2. -/
theorem part9 {Q : _ → sProp 𝕄} {R : sProp 𝕄} {c : Dev nD} {f0 f2 : S3x256x32.Idx → BitVec 32}
    (h : iprop(cols m c f0 f2 20 20 ∗ R) ⊢ Q ⟨(keys (key0 m c) 19), (rowMax (keys (key0 m c) 19))⟩) :
    iprop(cols m c f0 f2 17 17 ∗ R) ⊢ wp frame (wpE (defs₀ (F := F)) 𝒱₀ (c : Thread nD τ) none) Set.univ
      (k0_part9 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4 cc0_scratch5
        (keys (key0 m c) 17)) Q := by
  rw [k0_part9_eq_skeleton]; unfold k0_part9_skel
  simp only [Prog.lift, Prog.bind_op, Prog.bind_ret, Prog.pure_eq_ret]
  refine loadA m 17 fun v => ?_
  refine storeA m 17 (pay72 _) ?_
  refine loadB m 14 fun v => ?_
  refine storeB m 17 14 (hj := rfl) (pay73 _) ?_
  refine loadA m 18 fun v => ?_
  refine storeA m 18 (pay76 _) ?_
  refine loadB m 13 fun v => ?_
  refine storeB m 18 13 (hj := rfl) (pay77 _) ?_
  refine loadA m 19 fun v => ?_
  refine storeA m 19 (pay80 _) ?_
  refine loadB m 12 fun v => ?_
  refine storeB m 19 12 (hj := rfl) (pay81 _) ?_
  refine part_end ?_
  rw [pay78, pay79]
  exact h

/-- Part 10: 3 columns of row block 0 and 2 of row block 2. -/
theorem part10 {Q : _ → sProp 𝕄} {R : sProp 𝕄} {c : Dev nD} {f0 f2 : S3x256x32.Idx → BitVec 32}
    (h : iprop(cols m c f0 f2 23 22 ∗ R) ⊢ Q ⟨(keys (key0 m c) 22), (rowMax (keys (key0 m c) 22))⟩) :
    iprop(cols m c f0 f2 20 20 ∗ R) ⊢ wp frame (wpE (defs₀ (F := F)) 𝒱₀ (c : Thread nD τ) none) Set.univ
      (k0_part10 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4 cc0_scratch5
        (keys (key0 m c) 19) (rowMax (keys (key0 m c) 19))) Q := by
  rw [k0_part10_eq_skeleton]; unfold k0_part10_skel
  simp only [Prog.lift, Prog.bind_op, Prog.bind_ret, Prog.pure_eq_ret]
  refine loadA m 20 fun v => ?_
  refine storeA m 20 (pay84 _) ?_
  refine loadB m 11 fun v => ?_
  refine storeB m 20 11 (hj := rfl) (pay85 _) ?_
  refine loadA m 21 fun v => ?_
  refine storeA m 21 (pay88 _) ?_
  refine loadB m 10 fun v => ?_
  refine storeB m 21 10 (hj := rfl) (pay89 _) ?_
  refine loadA m 22 fun v => ?_
  refine storeA m 22 (pay92 _) ?_
  refine part_end ?_
  rw [pay90, pay91]
  exact h

/-- Part 11: 2 columns of row block 0 and 3 of row block 2. -/
theorem part11 {Q : _ → sProp 𝕄} {R : sProp 𝕄} {c : Dev nD} {f0 f2 : S3x256x32.Idx → BitVec 32}
    (h : iprop(cols m c f0 f2 25 25 ∗ R) ⊢ Q ⟨(keys (key0 m c) 25), (rowMax (keys (key0 m c) 25))⟩) :
    iprop(cols m c f0 f2 23 22 ∗ R) ⊢ wp frame (wpE (defs₀ (F := F)) 𝒱₀ (c : Thread nD τ) none) Set.univ
      (k0_part11 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4 cc0_scratch5
        (keys (key0 m c) 22) (rowMax (keys (key0 m c) 22))) Q := by
  rw [k0_part11_eq_skeleton]; unfold k0_part11_skel
  simp only [Prog.lift, Prog.bind_op, Prog.bind_ret, Prog.pure_eq_ret]
  refine loadB m 9 fun v => ?_
  refine storeB m 22 9 (hj := rfl) (pay93 _) ?_
  refine loadA m 23 fun v => ?_
  refine storeA m 23 (pay96 _) ?_
  refine loadB m 8 fun v => ?_
  refine storeB m 23 8 (hj := rfl) (pay97 _) ?_
  refine loadA m 24 fun v => ?_
  refine storeA m 24 (pay100 _) ?_
  refine loadB m 7 fun v => ?_
  refine storeB m 24 7 (hj := rfl) (pay101 _) ?_
  refine part_end ?_
  rw [pay102, pay103]
  exact h

/-- Part 12: 3 columns of row block 0 and 3 of row block 2. -/
theorem part12 {Q : _ → sProp 𝕄} {R : sProp 𝕄} {c : Dev nD} {f0 f2 : S3x256x32.Idx → BitVec 32}
    (h : iprop(cols m c f0 f2 28 28 ∗ R) ⊢ Q ⟨(keys (key0 m c) 27), (hits (keys (key0 m c) 27)), lowest⟩) :
    iprop(cols m c f0 f2 25 25 ∗ R) ⊢ wp frame (wpE (defs₀ (F := F)) 𝒱₀ (c : Thread nD τ) none) Set.univ
      (k0_part12 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4 cc0_scratch5
        (keys (key0 m c) 25) (rowMax (keys (key0 m c) 25))) Q := by
  rw [k0_part12_eq_skeleton]; unfold k0_part12_skel
  simp only [Prog.lift, Prog.bind_op, Prog.bind_ret, Prog.pure_eq_ret]
  refine loadA m 25 fun v => ?_
  refine storeA m 25 (pay104 _) ?_
  refine loadB m 6 fun v => ?_
  refine storeB m 25 6 (hj := rfl) (pay105 _) ?_
  refine loadA m 26 fun v => ?_
  refine storeA m 26 (pay108 _) ?_
  refine loadB m 5 fun v => ?_
  refine storeB m 26 5 (hj := rfl) (pay109 _) ?_
  refine loadA m 27 fun v => ?_
  refine storeA m 27 (pay112 _) ?_
  refine loadB m 4 fun v => ?_
  refine storeB m 27 4 (hj := rfl) (pay113 _) ?_
  refine part_end ?_
  rw [pay110, pay114, pay115]
  exact h

/-- Part 13: 3 columns of row block 0 and 2 of row block 2. -/
theorem part13 {Q : _ → sProp 𝕄} {R : sProp 𝕄} {c : Dev nD} {f0 f2 : S3x256x32.Idx → BitVec 32}
    (h : iprop(cols m c f0 f2 31 30 ∗ R) ⊢ Q ⟨(keys (key0 m c) 30), (rowMax (keys (key0 m c) 30))⟩) :
    iprop(cols m c f0 f2 28 28 ∗ R) ⊢ wp frame (wpE (defs₀ (F := F)) 𝒱₀ (c : Thread nD τ) none) Set.univ
      (k0_part13 (F := F) (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4 cc0_scratch5
        (keys (key0 m c) 27) (hits (keys (key0 m c) 27)) lowest) Q := by
  rw [k0_part13_eq_skeleton]; unfold k0_part13_skel
  simp only [Prog.lift, Prog.bind_op, Prog.bind_ret, Prog.pure_eq_ret]
  refine loadA m 28 fun v => ?_
  refine storeA m 28 (pay118 _) ?_
  refine loadB m 3 fun v => ?_
  refine storeB m 28 3 (hj := rfl) (pay119 _) ?_
  refine loadA m 29 fun v => ?_
  refine storeA m 29 (pay122 _) ?_
  refine loadB m 2 fun v => ?_
  refine storeB m 29 2 (hj := rfl) (pay123 _) ?_
  refine loadA m 30 fun v => ?_
  refine storeA m 30 (pay126 _) ?_
  refine loadB m 1 fun v => ?_
  refine part_end ?_
  rw [pay124, pay125]
  exact h

end Cert.KernelProof
-- ==== Proof.Steps.lean ====
/-
# One step of the body each

A barrier signal to a peer, a wait on an own cell, the load, the candidates' copy and a gather copy, each by the schedule
`sched`: what it takes and what it gives. A wait closes its cell, which has no later round.
-/
module

public import proofs.«01_k».proof.Proof.Columns

@[expose] public section

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
local notation "𝕄" => MT nD τ sig Unit (Elt F) ℕ UU ℕ
variable (m : (ℓ : Loc nD τ sig) → Buf (Elt F) ℓ)

/-- Device `c` owes `O`, whatever waits it has recorded. -/
def owesE (c : Dev nD) (O : CellTallies nD τ sig Unit) : sProp 𝕄 := iprop(∃ W, owes (c : Thread nD τ) O W)

variable (K : Dev nD × Fin 10 → ℕ) (c : Dev nD)

/-- A unit on peer `k`'s barrier, with the place that its copy lands in. -/
theorem step_signal (k : Fin 4) (n : Dev nD) (hn : n = peer k c) (N : ℕ) (hN : 1 = N) (O : CellTallies nD τ sig Unit)
    {α : Type} {Q : α → sProp 𝕄} {p : PUnit → Prog (TpuEff nD τ sig (Elt F) Λ₀ .tc) α} :
    iprop(records m K ∗ owesE c (O + tallyAt (cell (peer k c) 0) () 1) ∗ dutyTok ER (cell (peer k c) 0) 0 k ∗ barPay (peer k c) k)
      ⊢ iprop((owesE c O -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (n : Thread nD τ) barS N) p) Q) := by
  subst hn hN
  have hp : (barPay (peer k c) k : sProp 𝕄) ⊢ (sched m).payload ((peer k c : Thread nD τ), .reg barS) 0 k := Entails.of_eq rfl
  unfold owesE
  iintro ⟨#HR, ⟨%W, HO⟩, Ht, Hp⟩ Hk
  iapply (Rounds.wp_signal 𝒱₀ ER (sched m) (c : Thread nD τ) none (dst := (peer k c : Thread nD τ)) (κ := K (peer k c, 0)) (r := 0)
      (d := k) (by exact (duties_bar m (peer k c)) ▸ Finset.mem_univ k) rfl () O rfl) $$ [HO Ht Hp]
  · isplitr; · iapply (inv_at m K (peer k c) 0); iexact HR
    isplitl [HO]; · iexact HO
    isplitl [Ht]; · iexact Ht
    isplitl [Hp]; · iapply hp; iexact Hp
    iapply (reached_at m K (peer k c) 0); iexact HR
  iintro HO
  iapply Hk
  iexists W; iexact HO

/-- The wait for the four units on the own barrier. -/
theorem step_bar (N : ℕ) (hN : N = 4) (O : CellTallies nD τ sig Unit) (hO : Above 1 O)
    {α : Type} {Q : α → sProp 𝕄} {p : PUnit → Prog (TpuEff nD τ sig (Elt F) Λ₀ .tc) α} :
    iprop(records m K ∗ levAts L lv ∗ owesE c O ∗ cred (tallyAt (cell c 0) () 4) ∗ atPos ER (cell c 0) 0 ∅ 0)
      ⊢ iprop(((owesE c O ∗ semVal (cell c 0) 0 ∗ barPay c 0 ∗ barPay c 1 ∗ barPay c 2 ∗ barPay c 3)
            -∗ wp frame (wpE (defs₀ (F := F)) 𝒱₀ (c : Thread nD τ) none) Set.univ (p ⟨⟩) Q)
          -∗ wp frame (wpE (defs₀ (F := F)) 𝒱₀ (c : Thread nD τ) none) Set.univ (.op (.semWait barS N) p) Q) := by
  subst hN
  have hr : bigSep ((sched (F := F) m).duties ((c : Thread nD τ), .reg barS) 0 \ ∅) (fun d => (sched (F := F) m).payload ((c : Thread nD τ), .reg barS) 0 d)
      = iprop(barPay c 0 ∗ barPay c 1 ∗ barPay c 2 ∗ barPay c 3) := rest_bar m c
  unfold owesE
  iintro ⟨#HR, #Hl, ⟨%W, HO⟩, Hc, Hat⟩ Hk
  iapply (Rounds.wp_wait_rest_token 𝒱₀ ER (sched m) (c : Thread nD τ) none (κ := K (c, 0)) (sm := .reg barS)
      (wpE_semWait_eq 𝒱₀ (c : Thread nD τ) none Set.univ) (Set.mem_univ _) () (O := O) (W := W) (R := 0) (m := 0) (T := ∅)
      (by exact (expect_bar m c).symm)) $$ [Hc HO Hat]
  · isplitr; · iapply (inv_at m K c 0); iexact HR
    isplitl [Hc]; · iexact Hc
    isplitl [HO]; · iexact HO
    isplitr; · iapply (mayWait c (.reg barS) 1 (by decide) hO); iexact Hl
    iexact Hat
  iintro ⟨HO, Hat, -, Hpay⟩
  ihave Hp := (Entails.of_eq hr) $$ Hpay
  imod (Rounds.cell_close ER (sched m) (Set.mem_univ (K (c, 0))) (fun h => h) (R := 0 + 1) (duties_later m (cell c 0))) $$ [Hat] with Hz
  · isplitr; · iapply (inv_at m K c 0); iexact HR
    iexact Hat
  iapply Hk
  isplitl [HO]; · iexists _; iexact HO
  isplitl [Hz]; · iexact Hz
  iexact Hp

/-- The wait for the landing on the own DMA semaphore `q`. -/
theorem step_wait (q : Fin 10) (hq : q ≠ 0) (n : ℕ) (hn : lvOf (.dma q : SemLoc sig) ≤ n) (O : CellTallies nD τ sig Unit) (hO : Above n O)
    (s : DmaSem sig) (hs : s = q) {sp sp' : Space} {S S' : Shape} {e e' : EltTy} (src : Memref sig .tc sp S e) (dst : Memref sig .tc sp' S' e')
    (hN : dst.view.dmaCredit = dmaAmt q) {hsrc hdst}
    {α : Type} {Q : α → sProp 𝕄} {p : PUnit → Prog (TpuEff nD τ sig (Elt F) Λ₀ .tc) α} :
    iprop(records m K ∗ levAts L lv ∗ owesE c O ∗ cred (tallyAt (cell c q) () (dmaAmt q)) ∗ atPos ER (cell c q) 0 ∅ 0)
      ⊢ iprop(((owesE c O ∗ semVal (cell c q) 0 ∗ dmaPay m c q)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 s src dst hsrc hdst) p) Q) := by
  subst hs
  have hc : cell c s = ((c : Thread nD τ), .dma s) := by unfold cell csem; rw [if_neg hq]
  rw [hc, ← hN]
  unfold owesE
  iintro ⟨#HR, #Hl, ⟨%W, HO⟩, Hc, Hat⟩ Hk
  iapply (Rounds.wp_wait_rest_token 𝒱₀ ER (sched m) (c : Thread nD τ) none (κ := K (c, s)) (sm := .dma s)
      (wpE_waitDma2_eq 𝒱₀ (c : Thread nD τ) none Set.univ) (Set.mem_univ _) () (O := O) (W := W) (R := 0) (m := 0) (T := ∅)
      (by rw [Nat.zero_add, expect_dma m c s hq]; exact hN)) $$ [Hc HO Hat]
  · isplitr; · rw [← hc]; iapply (inv_at m K c s); iexact HR
    isplitl [Hc]; · iexact Hc
    isplitl [HO]; · iexact HO
    isplitr; · iapply (mayWait c (.dma s) n hn hO); iexact Hl
    iexact Hat
  iintro ⟨HO, Hat, -, Hpay⟩
  ihave Hp := (Entails.of_eq (rest_dma m c s hq)) $$ Hpay
  imod (Rounds.cell_close ER (sched m) (Set.mem_univ (K (c, s))) (fun h => h) (R := 0 + 1) (duties_later m ((c : Thread nD τ), .dma s))) $$ [Hat] with Hz
  · isplitr; · rw [← hc]; iapply (inv_at m K c s); iexact HR
    iexact Hat
  iapply Hk
  isplitl [HO]; · iexists _; iexact HO
  isplitl [Hz]; · iexact Hz
  iexact Hp

/-- The load of the device's rows. -/
theorem step_load (f : Buf (Elt F) (xM.view.loc (c : Thread nD τ))) (s : DmaSem sig) (hs : s = 1) {hsrc hdst hsem}
    {α : Type} {Q : α → sProp 𝕄} {p : PUnit → Prog (TpuEff nD τ sig (Elt F) Λ₀ .tc) α} :
    iprop(records m K ∗ srcPts m c ∗ xPts c f ∗ dutyTok ER (cell c 1) 0 0)
      ⊢ iprop((cred (tallyAt (cell c 1) () NX) -∗ wp frame (wpE (defs₀ (F := F)) 𝒱₀ (c : Thread nD τ) none) Set.univ (p ⟨⟩) Q)
          -∗ wp frame (wpE (defs₀ (F := F)) 𝒱₀ (c : Thread nD τ) none) Set.univ (.op (.enqueueDma (srcRows c) (.here xM) (.dma s) hsrc hdst hsem) p) Q) := by
  subst hs
  have hc : cell c 1 = ((c : Thread nD τ), .dma 1) := by unfold cell csem; rw [if_neg (by decide)]
  have hpay : iprop((xM.view.loc (c : Thread nD τ) ↦[xM.view.set]{fullShare} (xM.view.write (Elt F) f ((srcRows c).view.read (Elt F) (m ((c : Thread nD τ).loc main_arg0))) Finset.univ))
      ∗ ((srcRows c).view.loc (c : Thread nD τ) ↦[(srcRows c).view.set]{fullShare} m ((c : Thread nD τ).loc main_arg0)))
      ⊢ ((sched m).payload ((c : Thread nD τ), .dma 1) 0 0 : sProp 𝕄) := by
    show _ ⊢ iprop(xPts c (rowsIn m c) ∗ srcPts m c)
    unfold xPts srcPts
    refine sep_mono_left (Entails.of_eq ?_)
    exact congrArg _ (View.write_whole_univ _ _ _)
  unfold srcPts xPts
  rw [hc]
  iintro ⟨#HR, Hs, Hx, Ht⟩ Hk
  iapply (Rounds.wp_copy_pointsTo 𝒱₀ ER (sched m) (c : Thread nD τ) none (κ := K (c, 1)) (r := 0) (d := 0) (fd := f)
      (by rw [duties_dma m c 1 (by decide)]; exact Finset.mem_singleton_self _) () NX rfl rfl hpay) $$ [Hs Hx Ht]
  · isplitr; · rw [← hc]; iapply (inv_at m K c 1); iexact HR
    isplitl [Hs]; · iexact Hs
    isplitl [Hx]; · iexact Hx
    isplitl [Ht]; · iexact Ht
    rw [← hc]; iapply (reached_at m K c 1); iexact HR
  iexact Hk

/-- The candidates' copy to the device across y. -/
theorem step_y (n : Dev nD) (hn : n = peer 0 c) (s₁ s₂ : DmaSem sig) (h₁ : s₁ = 2) (h₂ : s₂ = 3) (O : CellTallies nD τ sig Unit)
    (f : Buf (Elt F) (cand1.view.loc (peer 0 c : Thread nD τ)))
    {hsc : (cand1 : Memref sig (Dev.tc n : Thread nD τ).2.kind .vmem S256x32 .i32).view.ref.isScScratch = false} {hsrc hdst}
    {hsem : DmaTarget.Typed .vmem (.dma s₂) (.remote (Dev.tc n : Thread nD τ) cand1 (.dma s₁) hsc)}
    {α : Type} {Q : α → sProp 𝕄} {p : PUnit → Prog (TpuEff nD τ sig (Elt F) Λ₀ .tc) α} :
    iprop(records m K ∗ cand2Pts c (candB m c) ∗ cand1Pts (peer 0 c) f ∗ owesE c (O + tallyAt (cell (peer 0 c) 3) () NY)
        ∗ dutyTok ER (cell c 2) 0 0 ∗ dutyTok ER (cell (peer 0 c) 3) 0 0)
      ⊢ iprop(((cred (tallyAt (cell c 2) () NY) ∗ owesE c O) -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma cand2 (.remote (Dev.tc n : Thread nD τ) cand1 (.dma s₁) hsc) (.dma s₂) hsrc hdst hsem) p) Q) := by
  subst hn h₁ h₂
  have hc2 : cell c 2 = ((c : Thread nD τ), .dma 2) := by unfold cell csem; rw [if_neg (by decide)]
  have hc3 : cell (peer 0 c) 3 = ((peer 0 c : Thread nD τ), .dma 3) := by unfold cell csem; rw [if_neg (by decide)]
  have hp1 : (cand2.view.loc (c : Thread nD τ) ↦[cand2.view.set]{fullShare} candB m c) ⊢ ((sched m).payload ((c : Thread nD τ), .dma 2) 0 0 : sProp 𝕄) :=
    Entails.of_eq rfl
  have hp2 : (cand1.view.loc (peer 0 c : Thread nD τ) ↦[cand1.view.set]{fullShare} (cand1.view.write (Elt F) f (cand2.view.read (Elt F) (candB m c)) Finset.univ))
      ⊢ ((sched m).payload ((peer 0 c : Thread nD τ), .dma 3) 0 0 : sProp 𝕄) :=
    Entails.of_eq (cand_landed m c f)
  unfold owesE cand1Pts cand2Pts
  rw [hc2, hc3]
  iintro ⟨#HR, Hs, Hd, ⟨%W, HO⟩, Ht, Ht'⟩ Hk
  iapply (Rounds.wp_send_pointsTo 𝒱₀ ER (sched m) (c : Thread nD τ) none (κ₁ := K (c, 2)) (κ₂ := K (peer 0 c, 3))
    (r₁ := 0) (r₂ := 0) (d₁ := 0) (d₂ := 0) (fd := f)
    (by rw [duties_dma m c 2 (by decide)]; exact Finset.mem_singleton_self _) (by rw [duties_dma m (peer 0 c) 3 (by decide)]; exact Finset.mem_singleton_self _)
    () () NY rfl rfl rfl O rfl (W := W) hp1 hp2) $$ [Hs Hd HO Ht Ht']
  · isplitr; · rw [← hc2]; iapply (inv_at m K c 2); iexact HR
    isplitr; · rw [← hc3]; iapply (inv_at m K (peer 0 c) 3); iexact HR
    isplitl [Hs]; · iexact Hs
    isplitl [Hd]; · iexact Hd
    isplitl [HO]; · iexact HO
    isplitl [Ht]; · iexact Ht
    isplitr; · rw [← hc2]; iapply (reached_at m K c 2); iexact HR
    isplitl [Ht']; · iexact Ht'
    rw [← hc3]; iapply (reached_at m K (peer 0 c) 3); iexact HR
  iintro ⟨Hc, HO⟩
  iapply Hk
  isplitl [Hc]; · iexact Hc
  iexists W; iexact HO

/-- The send cell and the receive cell of gather copy `k`. -/
def gsnd : Fin 3 → Fin 10 := ![4, 5, 6]
def grcv : Fin 3 → Fin 10 := ![7, 8, 9]

theorem gsnd_ne (k : Fin 3) : gsnd k ≠ 0 := by revert k; decide
theorem grcv_ne (k : Fin 3) : grcv k ≠ 0 := by revert k; decide
theorem pay_gsnd (k : Fin 3) : (sched m).payload ((c : Thread nD τ), .dma (gsnd k)) 0 0 = outPts c c (share3 k) (outC m c) := by
  show dmaPay m c (gsnd k) = _
  match k with
  | ⟨0, _⟩ => rfl
  | ⟨1, _⟩ => rfl
  | ⟨2, _⟩ => rfl
theorem pay_grcv (k : Fin 3) : (sched m).payload ((c : Thread nD τ), .dma (grcv k)) 0 0 = outPts c (peer k.succ c) fullShare (outC m c) := by
  show dmaPay m c (grcv k) = _
  match k with
  | ⟨0, _⟩ => rfl
  | ⟨1, _⟩ => rfl
  | ⟨2, _⟩ => rfl
theorem amt_gsnd (k : Fin 3) : dmaAmt (gsnd k) = NO := by
  unfold dmaAmt
  rw [if_neg (by revert k; decide), if_neg (by revert k; decide)]
theorem amt_grcv (k : Fin 3) : dmaAmt (grcv k) = NO := by
  unfold dmaAmt
  rw [if_neg (by revert k; decide), if_neg (by revert k; decide)]

/-- A gather copy: the device's finished rows to peer `k + 1`. -/
theorem step_o (k : Fin 3) (pk : Fin 4) (hpk : pk = k.succ) (qs qr : Fin 10) (hqs : qs = gsnd k) (hqr : qr = grcv k)
    (n : Dev nD) (hn : n = peer pk c) (s₁ s₂ : DmaSem sig) (h₁ : s₁ = qs) (h₂ : s₂ = qr) (O : CellTallies nD τ sig Unit)
    (f : Buf (Elt F) ((outRows c).view.loc (peer pk c : Thread nD τ)))
    {hsc : ((outRows c) : Memref sig (Dev.tc n : Thread nD τ).2.kind .vmem S256x32 .f32).view.ref.isScScratch = false} {hsrc hdst}
    {hsem : DmaTarget.Typed .vmem (.dma s₂) (.remote (Dev.tc n : Thread nD τ) (outRows c) (.dma s₁) hsc)}
    {α : Type} {Q : α → sProp 𝕄} {p : PUnit → Prog (TpuEff nD τ sig (Elt F) Λ₀ .tc) α} :
    iprop(records m K ∗ outPts c c (share3 k) (outC m c) ∗ outPts (peer pk c) c fullShare f
        ∗ owesE c (O + tallyAt (cell (peer pk c) qr) () NO)
        ∗ dutyTok ER (cell c qs) 0 0 ∗ dutyTok ER (cell (peer pk c) qr) 0 0)
      ⊢ iprop(((cred (tallyAt (cell c qs) () NO) ∗ owesE c O) -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma (outRows c) (.remote (Dev.tc n : Thread nD τ) (outRows c) (.dma s₁) hsc) (.dma s₂) hsrc hdst hsem) p) Q) := by
  subst hn h₁ h₂ hqs hqr hpk
  have hc2 : cell c (gsnd k) = ((c : Thread nD τ), .dma (gsnd k)) := by unfold cell csem; rw [if_neg (gsnd_ne k)]
  have hc3 : cell (peer k.succ c) (grcv k) = ((peer k.succ c : Thread nD τ), .dma (grcv k)) := by unfold cell csem; rw [if_neg (grcv_ne k)]
  have hp1 : ((outRows c).view.loc (c : Thread nD τ) ↦[(outRows c).view.set]{share3 k} outC m c) ⊢ ((sched m).payload ((c : Thread nD τ), .dma (gsnd k)) 0 0 : sProp 𝕄) := by
    rw [pay_gsnd]; unfold outPts; exact Entails.refl _
  have hp2 : ((outRows c).view.loc (peer k.succ c : Thread nD τ) ↦[(outRows c).view.set]{fullShare} ((outRows c).view.write (Elt F) f ((outRows c).view.read (Elt F) (outC m c)) Finset.univ))
      ⊢ ((sched m).payload ((peer k.succ c : Thread nD τ), .dma (grcv k)) 0 0 : sProp 𝕄) := by
    rw [out_landed m k c f, pay_grcv, peer_peer]
  have hk1 : (sched m).amount ((c : Thread nD τ), .dma (gsnd k)) 0 0 = NO := amt_gsnd k
  have hk2 : (sched m).amount ((peer k.succ c : Thread nD τ), .dma (grcv k)) 0 0 = NO := amt_grcv k
  unfold owesE outPts
  rw [hc2, hc3]
  iintro ⟨#HR, Hs, Hd, ⟨%W, HO⟩, Ht, Ht'⟩ Hk
  iapply (Rounds.wp_send_pointsTo 𝒱₀ ER (sched m) (c : Thread nD τ) none (κ₁ := K (c, gsnd k)) (κ₂ := K (peer k.succ c, grcv k))
    (r₁ := 0) (r₂ := 0) (d₁ := 0) (d₂ := 0) (fd := f)
    (by rw [duties_dma m c _ (gsnd_ne k)]; exact Finset.mem_singleton_self _) (by rw [duties_dma m (peer k.succ c) _ (grcv_ne k)]; exact Finset.mem_singleton_self _)
    () () NO (by exact NO_eq c) hk1 hk2 O rfl (W := W) hp1 hp2) $$ [Hs Hd HO Ht Ht']
  · isplitr; · rw [← hc2]; iapply (inv_at m K c (gsnd k)); iexact HR
    isplitr; · rw [← hc3]; iapply (inv_at m K (peer k.succ c) (grcv k)); iexact HR
    isplitl [Hs]; · iexact Hs
    isplitl [Hd]; · iexact Hd
    isplitl [HO]; · iexact HO
    isplitl [Ht]; · iexact Ht
    isplitr; · rw [← hc2]; iapply (reached_at m K c (gsnd k)); iexact HR
    isplitl [Ht']; · iexact Ht'
    rw [← hc3]; iapply (reached_at m K (peer k.succ c) (grcv k)); iexact HR
  iintro ⟨Hc, HO⟩
  iapply Hk
  isplitl [Hc]; · iexact Hc
  iexists W; iexact HO

end Cert.KernelProof
-- ==== Proof.Comm.lean ====
/-
# The parts that communicate

The body's first two parts (the load, the barrier's signals), and the parts from the barrier's wait on: the exchange of the
candidates across y, the merge, the store of the finished rows and the three gather copies.
-/
module

public import proofs.«01_k».proof.Proof.Parts
public import proofs.«01_k».proof.Proof.Steps

@[expose] public section

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
local notation "𝕄" => MT nD τ sig Unit (Elt F) ℕ UU ℕ
variable (m : (ℓ : Loc nD τ sig) → Buf (Elt F) ℓ)
variable (K : Dev nD × Fin 10 → ℕ) (c : Dev nD)

theorem amt_1 : dmaAmt 1 = NX := if_pos rfl
theorem amt_2 : dmaAmt 2 = NY := by unfold dmaAmt; rw [if_neg (by decide), if_pos (by decide)]
theorem amt_3 : dmaAmt 3 = NY := by unfold dmaAmt; rw [if_neg (by decide), if_pos (by decide)]

/-- The barrier's semaphore array. -/
abbrev barArr : Sems sig S_ := SemArray.scalar (sig.barrier 0 rfl)

/-- Part 1: the load is issued, two units go to the barriers of the peers across y and across x. -/
theorem part1 {Q : _ → sProp 𝕄} (f : Buf (Elt F) (xM.view.loc (c : Thread nD τ))) :
    iprop(records m K ∗ srcPts m c ∗ xPts c f ∗ dutyTok ER (cell c 1) 0 0 ∗ owesE c (owe1 c)
        ∗ dutyTok ER (cell (peer 0 c) 0) 0 0 ∗ dutyTok ER (cell (peer 1 c) 0) 0 1 ∗ barPay (peer 0 c) 0 ∗ barPay (peer 1 c) 1)
      ⊢ iprop((∀ v2 v8 v11 v14 v15 v16, (cred (tallyAt (cell c 1) () NX) ∗ owesE c (owe3 c)) -∗ Q ⟨c, v2, myWord c, v8, v11, v14, v15, v16, barArr⟩)
          -∗ wp frame (wpE (defs₀ (F := F)) 𝒱₀ (c : Thread nD τ) none) Set.univ
        (k0_part1 (F := F) (Memref.whole main_arg0) (Memref.isWhole_whole _) (Memref.whole cc0_stg0_0) (Memref.isWhole_whole _) (Memref.whole cc0_scratch0) (Memref.isWhole_whole _) (Memref.whole cc0_scratch1) (Memref.isWhole_whole _)
          cc0_scratch2 cc0_scratch3 cc0_scratch4 cc0_scratch5) Q) := by
  rw [k0_part1_eq_skeleton]; unfold k0_part1_skel
  simp only [semSignalWord, semWaitWord, Prog.lift, Prog.bind_op, Prog.bind_ret, Prog.pure_eq_ret, wp_deviceId]
  iintro ⟨#HR, Hs, Hx, Ht, HO, Ht0, Ht1, Hp0, Hp1⟩ Hk
  iapply (step_load m K c f _ rfl) $$ [Hs Hx Ht]
  · isplitr; · iexact HR
    isplitl [Hs]; · iexact Hs
    isplitl [Hx]; · iexact Hx
    iexact Ht
  iintro Hc
  iapply (step_signal m K c 0 _ (dev1_eq c) _ rfl (owe2 c)) $$ [HO Ht0 Hp0]
  · isplitr; · iexact HR
    isplitl [HO]; · iexact HO
    isplitl [Ht0]; · iexact Ht0
    iexact Hp0
  iintro HO
  iapply (step_signal m K c 1 _ (dev2_eq c) _ rfl (owe3 c)) $$ [HO Ht1 Hp1]
  · isplitr; · iexact HR
    isplitl [HO]; · iexact HO
    isplitl [Ht1]; · iexact Ht1
    iexact Hp1
  iintro HO
  rw [wp_ret]; imodintro
  iapply Hk
  isplitl [Hc] <;> iassumption

theorem read_rows (c : Dev nD) : (xM : Memref sig .tc .vmem S256x8192 .f32).view.readAt (Elt F)
    (Rect.unit (s := S256x8192) ![0, 0] S256x8192.size inb_S256x8192_S256x8192_0_0).toLoadRect (rowsIn m c) = rowsIn m c :=
  Memref.readAt_unit_zero (Elt F) cc0_scratch0 (funext fun a => by fin_cases a <;> rfl) _ _

/-- Part 2: two units to the other barriers, the wait for the load, and the first column. -/
theorem part2 {Q : _ → sProp 𝕄} {v2 v14 v15 v16 : BitVec 32} {f0 f2 : S3x256x32.Idx → BitVec 32} :
    iprop(records m K ∗ levAts L lv ∗ owesE c (owe3 c) ∗ dutyTok ER (cell (peer 2 c) 0) 0 2 ∗ dutyTok ER (cell (peer 3 c) 0) 0 3 ∗ barPay (peer 2 c) 2 ∗ barPay (peer 3 c) 3
        ∗ cred (tallyAt (cell c 1) () NX) ∗ atPos ER (cell c 1) 0 ∅ 0 ∗ cols m c f0 f2 0 0)
      ⊢ iprop(((cols m c f0 f2 1 0 ∗ owesE c (owe5 c) ∗ semVal (cell c 1) 0 ∗ xPts c (rowsIn m c) ∗ srcPts m c)
            -∗ Q ⟨keys (key0 m c) 0, rowMax (keys (key0 m c) 0)⟩)
          -∗ wp frame (wpE (defs₀ (F := F)) 𝒱₀ (c : Thread nD τ) none) Set.univ
        (k0_part2 (F := F) (Memref.whole main_arg0) (Memref.isWhole_whole _) (Memref.whole cc0_stg0_0) (Memref.isWhole_whole _) (Memref.whole cc0_scratch0) (Memref.isWhole_whole _) (Memref.whole cc0_scratch1) (Memref.isWhole_whole _)
          cc0_scratch2 cc0_scratch3 cc0_scratch4 cc0_scratch5 c v2 (myWord c) v14 v15 v16 barArr) Q) := by
  rw [k0_part2_eq_skeleton]; unfold k0_part2_skel
  simp only [semSignalWord, semWaitWord, Prog.lift, Prog.bind_op, Prog.bind_ret, Prog.pure_eq_ret, wp_deviceId]
  iintro ⟨#HR, #Hl, HO, Ht0, Ht1, Hp0, Hp1, Hc, Hat, Hcols⟩ Hk
  iapply (step_signal m K c 2 _ (dev3_eq c) _ rfl (owe4 c)) $$ [HO Ht0 Hp0]
  · isplitr; · iexact HR
    isplitl [HO]; · iexact HO
    isplitl [Ht0]; · iexact Ht0
    iexact Hp0
  iintro HO
  iapply (step_signal m K c 3 _ (dev4_eq c) _ rfl (owe5 c)) $$ [HO Ht1 Hp1]
  · isplitr; · iexact HR
    isplitl [HO]; · iexact HO
    isplitl [Ht1]; · iexact Ht1
    iexact Hp1
  iintro HO
  ihave Hc' := (Entails.of_eq (by rw [amt_1] : (cred (tallyAt (cell c 1) () NX) : sProp 𝕄) = cred (tallyAt (cell c 1) () (dmaAmt 1)))) $$ Hc
  iapply (step_wait m K c 1 (by decide) 1 (by decide) (owe5 c) (above_owe5 c) _ rfl _ _ amt_1.symm) $$ [HO Hc' Hat]
  · isplitr; · iexact HR
    isplitr; · iexact Hl
    isplitl [HO]; · iexact HO
    isplitl [Hc']; · iexact Hc'
    iexact Hat
  iintro ⟨HO, Hz, Hpay⟩
  have hpay : (dmaPay m c 1 : sProp 𝕄) ⊢ iprop((xM.view.loc (c : Thread nD τ) ↦[xM.view.set]{fullShare} rowsIn m c) ∗ srcPts m c) := Entails.of_eq rfl
  ihave Hpay' := hpay $$ Hpay
  icases Hpay' with ⟨Hx, Hs⟩
  iapply (wp_load 𝒱₀ (c : Thread nD τ) none Set.univ (m := xM) (by exact (View.set_whole cc0_scratch0).symm ▸ Finset.subset_univ _)) $$ Hx
  iintro Hx
  rw [read_rows m c]
  have hfin : iprop(cols m c f0 f2 1 0 ∗ (owesE c (owe5 c) ∗ semVal (cell c 1) 0 ∗ (xM.view.loc (c : Thread nD τ) ↦[xM.view.set]{fullShare} rowsIn m c) ∗ srcPts m c
      ∗ ((cols m c f0 f2 1 0 ∗ owesE c (owe5 c) ∗ semVal (cell c 1) 0 ∗ xPts c (rowsIn m c) ∗ srcPts m c)
            -∗ Q ⟨keys (key0 m c) 0, rowMax (keys (key0 m c) 0)⟩))) ⊢ Q ⟨keys (key0 m c) 0, rowMax (keys (key0 m c) 0)⟩ := by
    iintro ⟨H0, H1, H2, H3, H4, Hk⟩
    iapply Hk
    isplitl [H0]; · iexact H0
    isplitl [H1]; · iexact H1
    isplitl [H2]; · iexact H2
    isplitl [H3]; · unfold xPts; iexact H3
    iexact H4
  istop
  refine (?_ : _ ⊢ iprop(cols m c f0 f2 0 0 ∗ (owesE c (owe5 c) ∗ semVal (cell c 1) 0 ∗ (xM.view.loc (c : Thread nD τ) ↦[xM.view.set]{fullShare} rowsIn m c) ∗ srcPts m c
      ∗ ((cols m c f0 f2 1 0 ∗ owesE c (owe5 c) ∗ semVal (cell c 1) 0 ∗ xPts c (rowsIn m c) ∗ srcPts m c)
            -∗ Q ⟨keys (key0 m c) 0, rowMax (keys (key0 m c) 0)⟩)))).trans ?_
  rotate_left
  · refine loadA m 0 fun v => ?_
    refine storeA m 0 rfl ?_
    refine loadB m 31 fun v' => ?_
    exact part_end hfin
  iintro ⟨⟨⟨⟨⟨⟨-, Hcols⟩, Hk⟩, HO⟩, Hz⟩, Hs⟩, Hx⟩
  isplitl [Hcols]; · iexact Hcols
  isplitl [HO]; · iexact HO
  isplitl [Hz]; · iexact Hz
  isplitl [Hx]; · iexact Hx
  isplitl [Hs]; · iexact Hs
  iexact Hk

theorem upA_all (f0 : S3x256x32.Idx → BitVec 32) : (candPts c 0 (upA m c f0 32) : sProp 𝕄) = candPts c 0 (candA m c) :=
  candPts_congr c 0 _ _ fun p _ => by unfold upA; rw [if_pos (show (p 2).val < 32 from (p 2).isLt)]
theorem upB_all (f2 : S3x256x32.Idx → BitVec 32) : (candPts c 2 (upB m c f2 32) : sProp 𝕄) = cand2Pts c (candB m c) :=
  (candPts_congr c 2 _ _ fun p _ => by unfold upB; rw [if_pos (by omega)]).trans (cand2Pts_eq c _).symm

/-- Part 14: the last columns, the barrier's wait, and the candidates' copy to the device across y. -/
theorem part14 {Q : _ → sProp 𝕄} {v2 v5 v8 : BitVec 32} {f0 f2 : S3x256x32.Idx → BitVec 32} :
    iprop(cols m c f0 f2 31 30 ∗ records m K ∗ levAts L lv ∗ owesE c (owe5 c) ∗ cred (tallyAt (cell c 0) () 4) ∗ atPos ER (cell c 0) 0 ∅ 0
        ∗ dutyTok ER (cell c 2) 0 0 ∗ dutyTok ER (cell (peer 0 c) 3) 0 0
        ∗ (∀ v, (candPts c 0 (candA m c) ∗ cred (tallyAt (cell c 2) () NY) ∗ owesE c (owe6 c) ∗ semVal (cell c 0) 0 ∗ barPay c 1 ∗ barPay c 2 ∗ barPay c 3) -∗ Q v))
      ⊢ wp frame (wpE (defs₀ (F := F)) 𝒱₀ (c : Thread nD τ) none) Set.univ
        (k0_part14 (F := F) (Memref.whole main_arg0) (Memref.isWhole_whole _) (Memref.whole cc0_stg0_0) (Memref.isWhole_whole _) (Memref.whole cc0_scratch0) (Memref.isWhole_whole _) (Memref.whole cc0_scratch1) (Memref.isWhole_whole _)
          cc0_scratch2 cc0_scratch3 cc0_scratch4 cc0_scratch5 c v2 v5 v8 barArr (keys (key0 m c) 30) (rowMax (keys (key0 m c) 30))) Q := by
  rw [k0_part14_eq_skeleton]; unfold k0_part14_skel
  simp only [semSignalWord, semWaitWord, Prog.lift, Prog.bind_op, Prog.bind_ret, Prog.pure_eq_ret, wp_deviceId]
  refine storeB m 30 1 (hj := rfl) (pay127 _) ?_
  refine loadA m 31 fun v => ?_
  refine storeA m 31 (pay129 _) ?_
  refine loadB m 0 fun v => ?_
  refine storeB m 31 0 (hj := rfl) (pay130 _) ?_
  unfold cols
  rw [upA_all, upB_all]
  iintro ⟨⟨H0, H2⟩, #HR, #Hl, HO, Hc, Hat, Ht, Ht', Hk⟩
  iapply (step_bar m K c _ rfl (owe5 c) (above_owe5 c)) $$ [HO Hc Hat]
  · isplitr; · iexact HR
    isplitr; · iexact Hl
    isplitl [HO]; · iexact HO
    isplitl [Hc]; · iexact Hc
    iexact Hat
  iintro ⟨HO, Hz, Hb0, Hb1, Hb2, Hb3⟩
  have hb : (barPay c 0 : sProp 𝕄) ⊢ iprop(∃ f, cand1Pts (peer 0 c) f) := by
    show iprop((∃ f, cand1Pts (peer 0 c) f) ∗ _) ⊢ _
    iintro ⟨H, -⟩; iexact H
  ihave Hb := hb $$ Hb0
  icases Hb with ⟨%f, Hd⟩
  iapply (step_y m K c _ (dev5_eq c) _ _ rfl rfl (owe6 c) f) $$ [H2 Hd HO Ht Ht']
  · isplitr; · iexact HR
    isplitl [H2]; · iexact H2
    isplitl [Hd]; · iexact Hd
    isplitl [HO]; · iexact HO
    isplitl [Ht] <;> iassumption
  iintro ⟨Hc, HO⟩
  rw [wp_ret]; imodintro
  iapply Hk
  isplitl [H0]; · iexact H0
  isplitl [Hc]; · iexact Hc
  isplitl [HO]; · iexact HO
  isplitl [Hz]; · iexact Hz
  isplitl [Hb1]; · iexact Hb1
  isplitl [Hb2] <;> iassumption

theorem block_set (b : ℕ) (inb : ∀ a, (![b, 0, 0] : Fin 3 → ℕ) a + S1x256x32.size a ≤ S3x256x32.size a) :
    (cM.access (Rect.unit (s := S3x256x32) ![b, 0, 0] S1x256x32.size inb)).set = candSet b :=
  (View.set_slice_whole _ _).trans (rect_candSet b inb)

theorem read_half0 : cM.view.readAt (Elt F) (Rect.unit (s := S3x256x32) ![0, 0, 0] S1x256x32.size inb_S3x256x32_S1x256x32_0_0_0).toLoadRect (candA m c) = half0 m c := by
  funext q
  rw [View.readAt_apply, View.read_apply]
  have h1 : ((Rect.unit (s := S3x256x32) ![0, 0, 0] S1x256x32.size inb_S3x256x32_S1x256x32_0_0_0).toLoadRect.idx q : S3x256x32.Idx) 1 = q 1 :=
    Fin.ext (by show 0 + 1 * (q 1).val = _; omega)
  have h2 : ((Rect.unit (s := S3x256x32) ![0, 0, 0] S1x256x32.size inb_S3x256x32_S1x256x32_0_0_0).toLoadRect.idx q : S3x256x32.Idx) 2 = q 2 :=
    Fin.ext (by show 0 + 1 * (q 2).val = _; omega)
  refine (cast_eq _ _).trans ?_
  unfold candA half0
  exact congrArg₂ (fun a b => nth m c a b) (congrArg Fin.val h2) h1
theorem read_half1 : cM.view.readAt (Elt F) (Rect.unit (s := S3x256x32) ![1, 0, 0] S1x256x32.size inb_S3x256x32_S1x256x32_1_0_0).toLoadRect (candB m (peer 0 c)) = half1 m c := by
  funext q
  rw [View.readAt_apply, View.read_apply]
  have h1 : ((Rect.unit (s := S3x256x32) ![1, 0, 0] S1x256x32.size inb_S3x256x32_S1x256x32_1_0_0).toLoadRect.idx q : S3x256x32.Idx) 1 = q 1 :=
    Fin.ext (by show 0 + 1 * (q 1).val = _; omega)
  have h2 : ((Rect.unit (s := S3x256x32) ![1, 0, 0] S1x256x32.size inb_S3x256x32_S1x256x32_1_0_0).toLoadRect.idx q : S3x256x32.Idx) 2 = q 2 :=
    Fin.ext (by show 0 + 1 * (q 2).val = _; omega)
  refine (cast_eq _ _).trans ?_
  unfold candB half1
  exact congrArg₂ (fun a b => nth m (peer 0 c) (31 - a) b) (congrArg Fin.val h2) h1

/-- Part 15: the candidates' copy is waited for on both sides, and the two halves are read. -/
theorem part15 {Q : _ → sProp 𝕄} {v2 v8 v438 : BitVec 32} :
    iprop(records m K ∗ levAts L lv ∗ owesE c (owe6 c) ∗ cred (tallyAt (cell c 2) () NY) ∗ cred (tallyAt (cell c 3) () NY) ∗ atPos ER (cell c 2) 0 ∅ 0 ∗ atPos ER (cell c 3) 0 ∅ 0
        ∗ candPts c 0 (candA m c))
      ⊢ iprop(((owesE c (owe6 c) ∗ semVal (cell c 2) 0 ∗ semVal (cell c 3) 0 ∗ candPts c 0 (candA m c) ∗ candPts c 1 (candB m (peer 0 c)) ∗ candPts c 2 (candB m c))
          -∗ Q ⟨k0_pay131 (F := F) (half0 m c) (half1 m c), iota .tc S256x32 32 [1] iota_S256x32_d1_w32, k0_pay132 (F := F) (half0 m c) (half1 m c), k0_pay133, k0_pay134 (F := F) (half0 m c) (half1 m c)⟩)
        -∗ wp frame (wpE (defs₀ (F := F)) 𝒱₀ (c : Thread nD τ) none) Set.univ
        (k0_part15 (F := F) (Memref.whole main_arg0) (Memref.isWhole_whole _) (Memref.whole cc0_stg0_0) (Memref.isWhole_whole _) (Memref.whole cc0_scratch0) (Memref.isWhole_whole _) (Memref.whole cc0_scratch1) (Memref.isWhole_whole _)
          cc0_scratch2 cc0_scratch3 cc0_scratch4 cc0_scratch5 v2 v8 v438) Q) := by
  rw [k0_part15_eq_skeleton]; unfold k0_part15_skel
  simp only [semSignalWord, semWaitWord, Prog.lift, Prog.bind_op, Prog.bind_ret, Prog.pure_eq_ret, wp_deviceId]
  iintro ⟨#HR, #Hl, HO, Hc2, Hc3, Ha2, Ha3, H0⟩ Hk
  ihave Hc2' := (Entails.of_eq (by rw [amt_2] : (cred (tallyAt (cell c 2) () NY) : sProp 𝕄) = cred (tallyAt (cell c 2) () (dmaAmt 2)))) $$ Hc2
  iapply (step_wait m K c 2 (by decide) 2 (by decide) (owe6 c) (above_owe6 c) _ rfl cand1 cand2 amt_2.symm) $$ [HO Hc2' Ha2]
  · isplitr; · iexact HR
    isplitr; · iexact Hl
    isplitl [HO]; · iexact HO
    isplitl [Hc2']; · iexact Hc2'
    iexact Ha2
  iintro ⟨HO, Hz2, Hp2⟩
  ihave Hc3' := (Entails.of_eq (by rw [amt_3] : (cred (tallyAt (cell c 3) () NY) : sProp 𝕄) = cred (tallyAt (cell c 3) () (dmaAmt 3)))) $$ Hc3
  iapply (step_wait m K c 3 (by decide) 2 (by decide) (owe6 c) (above_owe6 c) _ rfl cand2 cand1 amt_3.symm) $$ [HO Hc3' Ha3]
  · isplitr; · iexact HR
    isplitr; · iexact Hl
    isplitl [HO]; · iexact HO
    isplitl [Hc3']; · iexact Hc3'
    iexact Ha3
  iintro ⟨HO, Hz3, Hp3⟩
  have e2 : (dmaPay m c 2 : sProp 𝕄) ⊢ candPts c 2 (candB m c) := Entails.of_eq (cand2Pts_eq c _)
  have e3 : (dmaPay m c 3 : sProp 𝕄) ⊢ candPts c 1 (candB m (peer 0 c)) := Entails.of_eq (cand1Pts_eq c _)
  ihave H2 := e2 $$ Hp2
  ihave H1 := e3 $$ Hp3
  unfold candPts
  iapply (wp_load_rect 𝒱₀ (c : Thread nD τ) none Set.univ (m := cM) (r := Rect.unit (s := S3x256x32) ![0, 0, 0] S1x256x32.size inb_S3x256x32_S1x256x32_0_0_0)
    (by rw [block_set])) $$ H0
  iintro H0
  iapply (wp_load_rect 𝒱₀ (c : Thread nD τ) none Set.univ (m := cM) (r := Rect.unit (s := S3x256x32) ![1, 0, 0] S1x256x32.size inb_S3x256x32_S1x256x32_1_0_0)
    (by rw [block_set])) $$ H1
  iintro H1
  have g0 : (cM.access (Rect.unit (s := S3x256x32) ![0, 0, 0] S1x256x32.size inb_S3x256x32_S1x256x32_0_0_0)).read (Elt F) (candA m c) = half0 m c := read_half0 m c
  have g1 : (cM.access (Rect.unit (s := S3x256x32) ![1, 0, 0] S1x256x32.size inb_S3x256x32_S1x256x32_1_0_0)).read (Elt F) (candB m (peer 0 c)) = half1 m c := read_half1 m c
  rw [g0, g1]
  rw [wp_ret]; imodintro
  iapply Hk
  isplitl [HO]; · iexact HO
  isplitl [Hz2]; · iexact Hz2
  isplitl [Hz3]; · iexact Hz3
  isplitl [H0]; · iexact H0
  isplitl [H1] <;> iassumption

/-- Part 16: the merged keys. -/
theorem part16 {Q : _ → sProp 𝕄} {R : sProp 𝕄} (h : R ⊢ Q ⟨merged m c, mergedPos m c⟩) :
    R ⊢ wp frame (wpE (defs₀ (F := F)) 𝒱₀ (c : Thread nD τ) none) Set.univ
        (k0_part16 (F := F) (Memref.whole main_arg0) (Memref.isWhole_whole _) (Memref.whole cc0_stg0_0) (Memref.isWhole_whole _) (Memref.whole cc0_scratch0) (Memref.isWhole_whole _) (Memref.whole cc0_scratch1) (Memref.isWhole_whole _)
          cc0_scratch2 cc0_scratch3 cc0_scratch4 cc0_scratch5
          (k0_pay131 (F := F) (half0 m c) (half1 m c)) (iota .tc S256x32 32 [1] iota_S256x32_d1_w32) (k0_pay132 (F := F) (half0 m c) (half1 m c)) k0_pay133 (k0_pay134 (F := F) (half0 m c) (half1 m c))) Q := by
  rw [k0_part16_eq_skeleton]; unfold k0_part16_skel
  simp only [semSignalWord, semWaitWord, Prog.lift, Prog.bind_op, Prog.bind_ret, Prog.pure_eq_ret, wp_deviceId]
  exact part_end h

theorem off23 : k0_off2 c = k0_off3 c := (k0_off2_eq c).trans (k0_off3_eq c).symm

/-- The store of the finished rows, and the load before it whose value is not looked at. -/
theorem step_rows {α : Type} {Q : α → sProp 𝕄} (off : Fin 2 → ℕ) (ho : off = k0_off3 c) (inb) (f : Buf (Elt F) ((outRows c).view.loc (c : Thread nD τ)))
    (w : FVec F S256x32 .f32) (hw : w = done m c) {hl hx hm} {p : PUnit → Prog (TpuEff nD τ sig (Elt F) Λ₀ .tc) α} :
    iprop(outPts c c fullShare f)
      ⊢ iprop((outPts c c fullShare (outC m c) -∗ wp frame (wpE (defs₀ (F := F)) 𝒱₀ (c : Thread nD τ) none) Set.univ (p ⟨⟩) Q)
          -∗ wp frame (wpE (defs₀ (F := F)) 𝒱₀ (c : Thread nD τ) none) Set.univ (.op (.load oM (Rect.unit (s := S1024x32) off S256x32.size inb).toLoadRect hl)
            fun _ => .op (.store oM (Rect.unit (s := S1024x32) off S256x32.size inb) w Finset.univ hx hm) p) Q) := by
  subst ho
  have e := out_stored m c f w hw
  unfold outPts at e ⊢
  iintro Ho Hk
  iapply (wp_load_rect 𝒱₀ (c : Thread nD τ) none Set.univ (m := oM) (r := Rect.unit (s := S1024x32) (k0_off3 c) S256x32.size inb) (Finset.Subset.refl _)) $$ Ho
  iintro Ho
  iapply (wp_store 𝒱₀ (c : Thread nD τ) none Set.univ (m := oM) (r := Rect.unit (s := S1024x32) (k0_off3 c) S256x32.size inb) (Mk := Finset.univ) (by exact Finset.Subset.refl _)) $$ Ho
  iintro Ho
  iapply Hk
  iapply (Entails.of_eq e)
  iexact Ho

/-- Part 17: the finished rows are stored and sent to the peers across x and across z. -/
theorem part17 {Q : _ → sProp 𝕄} {v2 v5 v8 v11 : BitVec 32} (f : Buf (Elt F) ((outRows c).view.loc (c : Thread nD τ))) :
    iprop(records m K ∗ owesE c (owe6 c) ∗ outPts c c fullShare f ∗ barPay c 1 ∗ barPay c 2 ∗ dutyTok ER (cell c 4) 0 0 ∗ dutyTok ER (cell c 5) 0 0
        ∗ dutyTok ER (cell (peer 1 c) 7) 0 0 ∗ dutyTok ER (cell (peer 2 c) 8) 0 0)
      ⊢ iprop((∀ v532 v533 v534 v535, (owesE c (owe8 c) ∗ outPts c c (share3 2) (outC m c) ∗ cred (tallyAt (cell c 4) () NO) ∗ cred (tallyAt (cell c 5) () NO)) -∗ Q ⟨v532, v533, v534, v535⟩)
        -∗ wp frame (wpE (defs₀ (F := F)) 𝒱₀ (c : Thread nD τ) none) Set.univ
        (k0_part17 (F := F) (Memref.whole main_arg0) (Memref.isWhole_whole _) (Memref.whole cc0_stg0_0) (Memref.isWhole_whole _) (Memref.whole cc0_scratch0) (Memref.isWhole_whole _) (Memref.whole cc0_scratch1) (Memref.isWhole_whole _)
          cc0_scratch2 cc0_scratch3 cc0_scratch4 cc0_scratch5 c v2 v5 v8 v11 (merged m c) (mergedPos m c)) Q) := by
  rw [k0_part17_eq_skeleton]; unfold k0_part17_skel
  simp only [semSignalWord, semWaitWord, Prog.lift, Prog.bind_op, Prog.bind_ret, Prog.pure_eq_ret, wp_deviceId]
  iintro ⟨#HR, HO, Ho, Hb1, Hb2, Hs1, Hs2, Ht1, Ht2⟩ Hk
  iapply (step_rows m c _ (off23 c) _ f _ rfl) $$ Ho
  iintro Ho
  ihave Hos := (out_shares c (outC m c)).1 $$ Ho
  icases Hos with ⟨Ho0, Ho1, Ho2⟩
  have hb1 : (barPay c 1 : sProp 𝕄) ⊢ iprop(∃ f, outPts (peer 1 c) c fullShare f) := by
    show iprop((∃ f, outPts (peer 1 c) c fullShare f) ∗ _) ⊢ _
    iintro ⟨H, -⟩; iexact H
  have hb2 : (barPay c 2 : sProp 𝕄) ⊢ iprop(∃ f, outPts (peer 2 c) c fullShare f) := by
    show iprop((∃ f, outPts (peer 2 c) c fullShare f) ∗ _) ⊢ _
    iintro ⟨H, -⟩; iexact H
  ihave Hb1' := hb1 $$ Hb1
  icases Hb1' with ⟨%f1, Hd1⟩
  ihave Hb2' := hb2 $$ Hb2
  icases Hb2' with ⟨%f2, Hd2⟩
  iapply (step_o m K c 0 1 rfl 4 7 rfl rfl _ (dev6_eq c) _ _ rfl rfl (owe7 c) f1) $$ [Ho0 Hd1 HO Hs1 Ht1]
  · isplitr; · iexact HR
    isplitl [Ho0]; · iexact Ho0
    isplitl [Hd1]; · iexact Hd1
    isplitl [HO]; · iexact HO
    isplitl [Hs1] <;> iassumption
  iintro ⟨Hc1, HO⟩
  iapply (step_o m K c 1 2 rfl 5 8 rfl rfl _ (dev7_eq c) _ _ rfl rfl (owe8 c) f2) $$ [Ho1 Hd2 HO Hs2 Ht2]
  · isplitr; · iexact HR
    isplitl [Ho1]; · iexact Ho1
    isplitl [Hd2]; · iexact Hd2
    isplitl [HO]; · iexact HO
    isplitl [Hs2] <;> iassumption
  iintro ⟨Hc2, HO⟩
  rw [wp_ret]; imodintro
  iapply Hk
  isplitl [HO]; · iexact HO
  isplitl [Ho2]; · iexact Ho2
  isplitl [Hc1] <;> iassumption

theorem rows_4 : (dmaPay m c 4 : sProp 𝕄) ⊢ outPts c c (share3 0) (outC m c) := Entails.of_eq rfl
theorem rows_5 : (dmaPay m c 5 : sProp 𝕄) ⊢ outPts c c (share3 1) (outC m c) := Entails.of_eq rfl
theorem rows_6 : (dmaPay m c 6 : sProp 𝕄) ⊢ outPts c c (share3 2) (outC m c) := Entails.of_eq rfl
theorem rows_7 : (dmaPay m c 7 : sProp 𝕄) ⊢ outPts c (peer 1 c) fullShare (outC m c) := Entails.of_eq rfl
theorem rows_8 : (dmaPay m c 8 : sProp 𝕄) ⊢ outPts c (peer 2 c) fullShare (outC m c) := Entails.of_eq rfl
theorem rows_9 : (dmaPay m c 9 : sProp 𝕄) ⊢ outPts c (peer 3 c) fullShare (outC m c) := Entails.of_eq rfl

theorem owe8_zero : owe8 c = 0 + tallyAt (cell (peer 3 c) 9) () NO := (zero_add _).symm

/-- The wait for a landing of finished rows, nothing owed. -/
theorem wait_rows (q : Fin 10) (hq : q ≠ 0) (hl : lvOf (.dma q : SemLoc sig) ≤ 3) (ha : dmaAmt q = NO) (s : DmaSem sig) (hs : s = q) {sp : Space} {S : Shape} {e : EltTy}
    (src : Memref sig .tc sp S e) (off : Fin 2 → ℕ) (inb) (hst) {hsrc hdst}
    {α : Type} {Q : α → sProp 𝕄} {p : PUnit → Prog (TpuEff nD τ sig (Elt F) Λ₀ .tc) α} :
    iprop(records m K ∗ levAts L lv ∗ owesE c 0 ∗ cred (tallyAt (cell c q) () NO) ∗ atPos ER (cell c q) 0 ∅ 0)
      ⊢ iprop(((owesE c 0 ∗ semVal (cell c q) 0 ∗ dmaPay m c q) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 s src (oM.slice (Rect.unit (s := S1024x32) off S256x32.size inb) hst) hsrc hdst) p) Q) := by
  have hN : (oM.slice (Rect.unit (s := S1024x32) off S256x32.size inb) hst).view.dmaCredit = NO := rfl
  rw [← ha]
  exact step_wait m K c q hq 3 hl 0 (Above.zero 3) s hs src _ (hN.trans ha.symm)

/-- Part 18: the third gather copy, and the wait for the rows of the peer across x. -/
theorem part18 {Q : _ → sProp 𝕄} {v2 v5 v8 v532 v533 v534 v535 : BitVec 32} :
    iprop(records m K ∗ levAts L lv ∗ owesE c (owe8 c) ∗ outPts c c (share3 2) (outC m c) ∗ barPay c 3 ∗ dutyTok ER (cell c 6) 0 0 ∗ dutyTok ER (cell (peer 3 c) 9) 0 0
        ∗ cred (tallyAt (cell c 7) () NO) ∗ atPos ER (cell c 7) 0 ∅ 0)
      ⊢ iprop((∀ v v', (owesE c 0 ∗ cred (tallyAt (cell c 6) () NO) ∗ semVal (cell c 7) 0 ∗ outPts c (peer 1 c) fullShare (outC m c)) -∗ Q ⟨v, v'⟩)
        -∗ wp frame (wpE (defs₀ (F := F)) 𝒱₀ (c : Thread nD τ) none) Set.univ
        (k0_part18 (F := F) (Memref.whole main_arg0) (Memref.isWhole_whole _) (Memref.whole cc0_stg0_0) (Memref.isWhole_whole _) (Memref.whole cc0_scratch0) (Memref.isWhole_whole _) (Memref.whole cc0_scratch1) (Memref.isWhole_whole _)
          cc0_scratch2 cc0_scratch3 cc0_scratch4 cc0_scratch5 c v2 v5 v8 v532 v533 v534 v535) Q) := by
  rw [k0_part18_eq_skeleton]; unfold k0_part18_skel
  simp only [semSignalWord, semWaitWord, Prog.lift, Prog.bind_op, Prog.bind_ret, Prog.pure_eq_ret, wp_deviceId]
  rw [owe8_zero]
  iintro ⟨#HR, #Hl, HO, Ho, Hb, Hs, Ht, Hc, Ha⟩ Hk
  have hb : (barPay c 3 : sProp 𝕄) ⊢ iprop(∃ f, outPts (peer 3 c) c fullShare f) := by
    show iprop((∃ f, outPts (peer 3 c) c fullShare f) ∗ _) ⊢ _
    iintro ⟨H, -⟩; iexact H
  ihave Hb' := hb $$ Hb
  icases Hb' with ⟨%f, Hd⟩
  iapply (step_o m K c 2 3 rfl 6 9 rfl rfl _ (dev8_eq c) _ _ rfl rfl 0 f) $$ [Ho Hd HO Hs Ht]
  · isplitr; · iexact HR
    isplitl [Ho]; · iexact Ho
    isplitl [Hd]; · iexact Hd
    isplitl [HO]; · iexact HO
    isplitl [Hs] <;> iassumption
  iintro ⟨Hc6, HO⟩
  iapply (wait_rows m K c 7 (by decide) (by decide) (by exact amt_grcv 0) _ rfl _ _ _ _) $$ [HO Hc Ha]
  · isplitr; · iexact HR
    isplitr; · iexact Hl
    isplitl [HO]; · iexact HO
    isplitl [Hc] <;> iassumption
  iintro ⟨HO, Hz, Hq⟩
  ihave Hp := (rows_7 m c) $$ Hq
  rw [wp_ret]; imodintro
  iapply Hk
  isplitl [HO]; · iexact HO
  isplitl [Hc6]; · iexact Hc6
  isplitl [Hz]; · iexact Hz
  iexact Hp

/-- Part 19: the waits for the other peers' rows and for two of the own copies. -/
theorem part19 {Q : PUnit → sProp 𝕄} {v5 v534 v535 v591 v592 : BitVec 32} :
    iprop(records m K ∗ levAts L lv ∗ owesE c 0 ∗ cred (tallyAt (cell c 8) () NO) ∗ atPos ER (cell c 8) 0 ∅ 0 ∗ cred (tallyAt (cell c 9) () NO) ∗ atPos ER (cell c 9) 0 ∅ 0
        ∗ cred (tallyAt (cell c 4) () NO) ∗ atPos ER (cell c 4) 0 ∅ 0 ∗ cred (tallyAt (cell c 5) () NO) ∗ atPos ER (cell c 5) 0 ∅ 0)
      ⊢ iprop(((owesE c 0 ∗ (semVal (cell c 8) 0 ∗ outPts c (peer 2 c) fullShare (outC m c)) ∗ (semVal (cell c 9) 0 ∗ outPts c (peer 3 c) fullShare (outC m c))
            ∗ (semVal (cell c 4) 0 ∗ outPts c c (share3 0) (outC m c)) ∗ semVal (cell c 5) 0 ∗ outPts c c (share3 1) (outC m c)) -∗ Q ⟨⟩)
        -∗ wp frame (wpE (defs₀ (F := F)) 𝒱₀ (c : Thread nD τ) none) Set.univ
        (k0_part19 (F := F) (Memref.whole main_arg0) (Memref.isWhole_whole _) (Memref.whole cc0_stg0_0) (Memref.isWhole_whole _) (Memref.whole cc0_scratch0) (Memref.isWhole_whole _) (Memref.whole cc0_scratch1) (Memref.isWhole_whole _)
          cc0_scratch2 cc0_scratch3 cc0_scratch4 cc0_scratch5 c v5 v534 v535 v591 v592) Q) := by
  rw [k0_part19_eq_skeleton]; unfold k0_part19_skel
  simp only [semSignalWord, semWaitWord, Prog.lift, Prog.bind_op, Prog.bind_ret, Prog.pure_eq_ret, wp_deviceId]
  iintro ⟨#HR, #Hl, HO, Hc8, Ha8, Hc9, Ha9, Hc4, Ha4, Hc5, Ha5⟩ Hk
  iapply (wait_rows m K c 8 (by decide) (by decide) (amt_grcv 1) _ rfl _ _ _ _) $$ [HO Hc8 Ha8]
  · isplitr; · iexact HR
    isplitr; · iexact Hl
    isplitl [HO]; · iexact HO
    isplitl [Hc8] <;> iassumption
  iintro ⟨HO, Hz8, Hq8⟩
  ihave Hp8 := (rows_8 m c) $$ Hq8
  iapply (wait_rows m K c 9 (by decide) (by decide) (amt_grcv 2) _ rfl _ _ _ _) $$ [HO Hc9 Ha9]
  · isplitr; · iexact HR
    isplitr; · iexact Hl
    isplitl [HO]; · iexact HO
    isplitl [Hc9] <;> iassumption
  iintro ⟨HO, Hz9, Hq9⟩
  ihave Hp9 := (rows_9 m c) $$ Hq9
  iapply (wait_rows m K c 4 (by decide) (by decide) (amt_gsnd 0) _ rfl _ _ _ _) $$ [HO Hc4 Ha4]
  · isplitr; · iexact HR
    isplitr; · iexact Hl
    isplitl [HO]; · iexact HO
    isplitl [Hc4] <;> iassumption
  iintro ⟨HO, Hz4, Hq4⟩
  ihave Hp4 := (rows_4 m c) $$ Hq4
  iapply (wait_rows m K c 5 (by decide) (by decide) (amt_gsnd 1) _ rfl _ _ _ _) $$ [HO Hc5 Ha5]
  · isplitr; · iexact HR
    isplitr; · iexact Hl
    isplitl [HO]; · iexact HO
    isplitl [Hc5] <;> iassumption
  iintro ⟨HO, Hz5, Hq5⟩
  ihave Hp5 := (rows_5 m c) $$ Hq5
  rw [wp_ret]; imodintro
  iapply Hk
  isplitl [HO]; · iexact HO
  isplitl [Hz8 Hp8]; · isplitl [Hz8] <;> iassumption
  isplitl [Hz9 Hp9]; · isplitl [Hz9] <;> iassumption
  isplitl [Hz4 Hp4]; · isplitl [Hz4] <;> iassumption
  isplitl [Hz5] <;> iassumption

end Cert.KernelProof
-- ==== Proof.Body.lean ====
/-
# The body of the kernel

The nineteen parts and the last wait put together, at a symbolic device: from the ghost state, the launch credits and the
buffers, to the finished rows in the output's staging buffer, every semaphore back at zero.
-/
module

public import proofs.«01_k».proof.Proof.Comm

@[expose] public section

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
local notation "𝕄" => MT nD τ sig Unit (Elt F) ℕ UU ℕ
variable (m : (ℓ : Loc nD τ sig) → Buf (Elt F) ℓ)
variable (K : Dev nD × Fin 10 → ℕ) (c : Dev nD)

/-- What a device gives away with its signals: its landing places, and that it stands at round 0 of their receive cells. -/
theorem give0 (f : Buf (Elt F) (cM.view.loc (c : Thread nD τ))) : iprop(records m K ∗ candPts c 1 f) ⊢ barPay (peer 0 c) 0 := by
  show _ ⊢ iprop((∃ f, cand1Pts (peer 0 (peer 0 c)) f) ∗ reached ER (cell (peer 0 (peer 0 c)) 3) 0)
  rw [peer_peer, ← cand1Pts_eq]
  iintro ⟨#HR, H⟩
  isplitl [H]
  · iexists f; iexact H
  · iapply (reached_at m K c 3); iexact HR
theorem give1 (f : Buf (Elt F) ((outRows (peer 1 c)).view.loc (c : Thread nD τ))) : iprop(records m K ∗ outPts c (peer 1 c) fullShare f) ⊢ barPay (peer 1 c) 1 := by
  show _ ⊢ iprop((∃ f, outPts (peer 1 (peer 1 c)) (peer 1 c) fullShare f) ∗ reached ER (cell (peer 1 (peer 1 c)) 7) 0)
  rw [peer_peer]
  iintro ⟨#HR, H⟩
  isplitl [H]
  · iexists f; iexact H
  · iapply (reached_at m K c 7); iexact HR
theorem give2 (f : Buf (Elt F) ((outRows (peer 2 c)).view.loc (c : Thread nD τ))) : iprop(records m K ∗ outPts c (peer 2 c) fullShare f) ⊢ barPay (peer 2 c) 2 := by
  show _ ⊢ iprop((∃ f, outPts (peer 2 (peer 2 c)) (peer 2 c) fullShare f) ∗ reached ER (cell (peer 2 (peer 2 c)) 8) 0)
  rw [peer_peer]
  iintro ⟨#HR, H⟩
  isplitl [H]
  · iexists f; iexact H
  · iapply (reached_at m K c 8); iexact HR
theorem give3 (f : Buf (Elt F) ((outRows (peer 3 c)).view.loc (c : Thread nD τ))) : iprop(records m K ∗ outPts c (peer 3 c) fullShare f) ⊢ barPay (peer 3 c) 3 := by
  show _ ⊢ iprop((∃ f, outPts (peer 3 (peer 3 c)) (peer 3 c) fullShare f) ∗ reached ER (cell (peer 3 (peer 3 c)) 9) 0)
  rw [peer_peer]
  iintro ⟨#HR, H⟩
  isplitl [H]
  · iexists f; iexact H
  · iapply (reached_at m K c 9); iexact HR

/-- The ten counters of a device at zero. -/
def zeros : sProp 𝕄 :=
  iprop(semVal (cell c 0) 0 ∗ semVal (cell c 1) 0 ∗ semVal (cell c 2) 0 ∗ semVal (cell c 3) 0 ∗ semVal (cell c 4) 0 ∗ semVal (cell c 5) 0 ∗ semVal (cell c 6) 0 ∗ semVal (cell c 7) 0 ∗ semVal (cell c 8) 0 ∗ semVal (cell c 9) 0)

/-- What a device holds when its body is done. -/
def bodyEnd : sProp 𝕄 :=
  iprop(owesE c 0 ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ srcPts m c ∗ zeros c ∗ (((c : Thread nD τ).loc cc0_stg0_0) ↦{fullShare} (outC m c : Buf (Elt F) ((c : Thread nD τ).loc cc0_stg0_0))))

/-- What a device holds between its rounds and its handshake, besides the columns. -/
def midRest (f : Buf (Elt F) ((outRows c).view.loc (c : Thread nD τ))) : sProp 𝕄 :=
  iprop(owesE c (owe5 c) ∗ semVal (cell c 1) 0 ∗ xPts c (rowsIn m c) ∗ srcPts m c ∗ cred (tallyAt (cell c 0) () 4)
    ∗ (atPos ER (cell c 0) 0 ∅ 0 ∗ atPos ER (cell c 2) 0 ∅ 0 ∗ atPos ER (cell c 3) 0 ∅ 0 ∗ atPos ER (cell c 4) 0 ∅ 0
      ∗ atPos ER (cell c 5) 0 ∅ 0 ∗ atPos ER (cell c 6) 0 ∅ 0 ∗ atPos ER (cell c 7) 0 ∅ 0 ∗ atPos ER (cell c 8) 0 ∅ 0 ∗ atPos ER (cell c 9) 0 ∅ 0)
    ∗ (dutyTok ER (cell c 2) 0 0 ∗ dutyTok ER (cell (peer 0 c) 3) 0 0
      ∗ dutyTok ER (cell c 4) 0 0 ∗ dutyTok ER (cell c 5) 0 0 ∗ dutyTok ER (cell c 6) 0 0
      ∗ dutyTok ER (cell (peer 1 c) 7) 0 0 ∗ dutyTok ER (cell (peer 2 c) 8) 0 0 ∗ dutyTok ER (cell (peer 3 c) 9) 0 0)
    ∗ (cred (tallyAt (cell c 3) () NY) ∗ cred (tallyAt (cell c 7) () NO) ∗ cred (tallyAt (cell c 8) () NO) ∗ cred (tallyAt (cell c 9) () NO))
    ∗ outPts c c fullShare f)

set_option maxHeartbeats 1600000 in
/-- The body from the ghost state to `bodyEnd`. -/
theorem sound_body (f : Buf (Elt F) ((c : Thread nD τ).loc cc0_scratch0)) (g : Buf (Elt F) ((c : Thread nD τ).loc cc0_scratch1))
    (h : Buf (Elt F) ((c : Thread nD τ).loc cc0_stg0_0)) (Kt : PUnit → sProp 𝕄) :
    iprop(ghost m K c ∗ creds0 c ∗ levAts L lv ∗ owesE c (owe1 c) ∗ srcPts m c
        ∗ (((c : Thread nD τ).loc cc0_scratch0) ↦{fullShare} f) ∗ (((c : Thread nD τ).loc cc0_scratch1) ↦{fullShare} g)
        ∗ (((c : Thread nD τ).loc cc0_stg0_0) ↦{fullShare} h) ∗ (bodyEnd m c -∗ Kt ⟨⟩))
      ⊢ wp frame (wpE (defs₀ (F := F)) 𝒱₀ (c : Thread nD τ) none) Set.univ
        (cc0_body (F := F) (Memref.whole main_arg0) (Memref.isWhole_whole _) (Memref.whole cc0_stg0_0) (Memref.isWhole_whole _) (Memref.whole cc0_scratch0) (Memref.isWhole_whole _) (Memref.whole cc0_scratch1) (Memref.isWhole_whole _)
          cc0_scratch2 cc0_scratch3 cc0_scratch4 cc0_scratch5) Kt := by
  simp only [cc0_body_eq_skeleton]; unfold cc0_body_skel
  simp only [wp_bind]
  have hx : (((c : Thread nD τ).loc cc0_scratch0) ↦{fullShare} f : sProp 𝕄) ⊢ xPts c f := by
    unfold xPts; rw [show xM.view.set = Finset.univ from View.set_whole _]
  have hu0 : (candPts c 0 g : sProp 𝕄) ⊢ candPts c 0 (upA m c g 0) := Entails.of_eq (candPts_congr c 0 _ _ fun p _ => by unfold upA; rw [if_neg (Nat.not_lt_zero _)])
  have hu2 : (candPts c 2 g : sProp 𝕄) ⊢ candPts c 2 (upB m c g 0) := Entails.of_eq (candPts_congr c 2 _ _ fun p _ => by unfold upB; rw [if_neg (Nat.not_lt_zero _)])
  have hx' : (xPts c (rowsIn m c) : sProp 𝕄) ⊢ (((c : Thread nD τ).loc cc0_scratch0) ↦{fullShare} (rowsIn m c : Buf (Elt F) ((c : Thread nD τ).loc cc0_scratch0))) := by
    unfold xPts; rw [show xM.view.set = Finset.univ from View.set_whole _]
  unfold ghost poss payToks creds0
  iintro ⟨⟨#HR, ⟨Ha0, Ha1, Ha2, Ha3, Ha4, Ha5, Ha6, Ha7, Ha8, Ha9⟩, Ht0, Ht1, Ht2, Ht3, Hl1, Hs2, Hr3, Hs4, Hs5, Hs6, Hr7, Hr8, Hr9⟩, ⟨Hc0, Hc3, Hc7, Hc8, Hc9⟩, #Hl, HO, Hsrc, Hx, Hcand, Hout, Hk⟩
  ihave Hx := hx $$ Hx
  ihave Hcs := (cand_split c g) $$ Hcand
  icases Hcs with ⟨Hd0, Hd1, Hd2⟩
  ihave Hos := (out_split c h).1 $$ Hout
  icases Hos with ⟨Ho, Ho1, Ho2, Ho3⟩
  ihave Hg0 := (give0 m K c g) $$ [Hd1]
  · isplitr; · iexact HR
    iexact Hd1
  ihave Hg1 := (give1 m K c h) $$ [Ho1]
  · isplitr; · iexact HR
    iexact Ho1
  ihave Hg2 := (give2 m K c h) $$ [Ho2]
  · isplitr; · iexact HR
    iexact Ho2
  ihave Hg3 := (give3 m K c h) $$ [Ho3]
  · isplitr; · iexact HR
    iexact Ho3
  iapply (part1 m K c f) $$ [Hsrc Hx Hl1 HO Ht0 Ht1 Hg0 Hg1]
  · isplitr; · iexact HR
    isplitl [Hsrc]; · iexact Hsrc
    isplitl [Hx]; · iexact Hx
    isplitl [Hl1]; · iexact Hl1
    isplitl [HO]; · iexact HO
    isplitl [Ht0]; · iexact Ht0
    isplitl [Ht1]; · iexact Ht1
    isplitl [Hg0]; · iexact Hg0
    iexact Hg1
  iintro %v2 %v8 %v11 %v14 %v15 %v16 ⟨Hc1, HO⟩
  ihave Hd0 := hu0 $$ Hd0
  ihave Hd2 := hu2 $$ Hd2
  try dsimp only
  iapply (part2 m K c (f0 := g) (f2 := g)) $$ [HO Ht2 Ht3 Hg2 Hg3 Hc1 Ha1 Hd0 Hd2]
  · isplitr; · iexact HR
    isplitr; · iexact Hl
    isplitl [HO]; · iexact HO
    isplitl [Ht2]; · iexact Ht2
    isplitl [Ht3]; · iexact Ht3
    isplitl [Hg2]; · iexact Hg2
    isplitl [Hg3]; · iexact Hg3
    isplitl [Hc1]; · iexact Hc1
    isplitl [Ha1]; · iexact Ha1
    unfold cols
    isplitl [Hd0]; · iexact Hd0
    iexact Hd2
  iintro ⟨Hcols, HO, Hz1, Hx, Hsrc⟩
  try dsimp only
  istop
  refine (?_ : _ ⊢ iprop(cols m c g g 1 0 ∗ (records m K ∗ levAts L lv ∗ midRest m c h ∗ (bodyEnd m c -∗ Kt ⟨⟩)))).trans ?_
  · unfold midRest
    iintro ⟨⟨⟨⟨⟨⟨⟨⟨⟨⟨⟨⟨⟨⟨⟨⟨⟨⟨⟨⟨⟨⟨⟨⟨⟨⟨⟨⟨⟨⟨#HR, Ha0⟩, Ha2⟩, Ha3⟩, Ha4⟩, Ha5⟩, Ha6⟩, Ha7⟩, Ha8⟩, Ha9⟩, Hs2⟩, Hr3⟩, Hs4⟩, Hs5⟩, Hs6⟩, Hr7⟩, Hr8⟩, Hr9⟩, Hc0⟩, Hc3⟩, Hc7⟩, Hc8⟩, Hc9⟩, #Hl⟩, Hk⟩, Ho⟩, Hcols⟩, HO⟩, Hz1⟩, Hx⟩, Hsrc⟩
    isplitl [Hcols]; · iexact Hcols
    isplitr; · iexact HR
    isplitr; · iexact Hl
    isplitr [Hk]
    rotate_left; · iexact Hk
    isplitl [HO]; · iexact HO
    isplitl [Hz1]; · iexact Hz1
    isplitl [Hx]; · iexact Hx
    isplitl [Hsrc]; · iexact Hsrc
    isplitl [Hc0]; · iexact Hc0
    isplitl [Ha0 Ha2 Ha3 Ha4 Ha5 Ha6 Ha7 Ha8 Ha9]
    · isplitl [Ha0]; · iexact Ha0
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      isplitl [Ha8]; · iexact Ha8
      iexact Ha9
    isplitl [Hs2 Hr3 Hs4 Hs5 Hs6 Hr7 Hr8 Hr9]
    · isplitl [Hs2]; · iexact Hs2
      isplitl [Hr3]; · iexact Hr3
      isplitl [Hs4]; · iexact Hs4
      isplitl [Hs5]; · iexact Hs5
      isplitl [Hs6]; · iexact Hs6
      isplitl [Hr7]; · iexact Hr7
      isplitl [Hr8]; · iexact Hr8
      iexact Hr9
    isplitl [Hc3 Hc7 Hc8 Hc9]
    · isplitl [Hc3]; · iexact Hc3
      isplitl [Hc7]; · iexact Hc7
      isplitl [Hc8]; · iexact Hc8
      iexact Hc9
    iexact Ho
  refine part3 m ?_
  try dsimp only
  refine part4 m ?_
  try dsimp only
  refine part5 m ?_
  try dsimp only
  refine part6 m ?_
  try dsimp only
  refine part7 m fun v => ?_
  try dsimp only
  refine part8 m v ?_
  refine part9 m ?_
  try dsimp only
  refine part10 m ?_
  try dsimp only
  refine part11 m ?_
  try dsimp only
  refine part12 m ?_
  try dsimp only
  refine part13 m ?_
  try dsimp only
  unfold midRest
  iintro ⟨Hcols, #HR, #Hl, ⟨HO, Hz1, Hx, Hsrc, Hc0, ⟨Ha0, Ha2, Ha3, Ha4, Ha5, Ha6, Ha7, Ha8, Ha9⟩, ⟨Hs2, Hr3, Hs4, Hs5, Hs6, Hr7, Hr8, Hr9⟩, ⟨Hc3, Hc7, Hc8, Hc9⟩, Ho⟩, Hk⟩
  iapply (part14 m K c)
  isplitl [Hcols]; · iexact Hcols
  isplitr; · iexact HR
  isplitr; · iexact Hl
  isplitl [HO]; · iexact HO
  isplitl [Hc0]; · iexact Hc0
  isplitl [Ha0]; · iexact Ha0
  isplitl [Hs2]; · iexact Hs2
  isplitl [Hr3]; · iexact Hr3
  iintro %v438 ⟨Hd0, Hc2, HO, Hz0, Hb1, Hb2, Hb3⟩
  iapply (part15 m K c) $$ [HO Hc2 Hc3 Ha2 Ha3 Hd0]
  · isplitr; · iexact HR
    isplitr; · iexact Hl
    isplitl [HO]; · iexact HO
    isplitl [Hc2]; · iexact Hc2
    isplitl [Hc3]; · iexact Hc3
    isplitl [Ha2]; · iexact Ha2
    isplitl [Ha3]; · iexact Ha3
    iexact Hd0
  iintro ⟨HO, Hz2, Hz3, Hd0, Hd1, Hd2⟩
  try dsimp only
  iapply (part16 m c (BI.Entails.refl _))
  try dsimp only
  iapply (part17 m K c h) $$ [HO Ho Hb1 Hb2 Hs4 Hs5 Hr7 Hr8]
  · isplitr; · iexact HR
    isplitl [HO]; · iexact HO
    isplitl [Ho]; · iexact Ho
    isplitl [Hb1]; · iexact Hb1
    isplitl [Hb2]; · iexact Hb2
    isplitl [Hs4]; · iexact Hs4
    isplitl [Hs5]; · iexact Hs5
    isplitl [Hr7]; · iexact Hr7
    iexact Hr8
  iintro %v532 %v533 %v534 %v535 ⟨HO, Ho, Hc4, Hc5⟩
  try dsimp only
  iapply (part18 m K c) $$ [HO Ho Hb3 Hs6 Hr9 Hc7 Ha7]
  · isplitr; · iexact HR
    isplitr; · iexact Hl
    isplitl [HO]; · iexact HO
    isplitl [Ho]; · iexact Ho
    isplitl [Hb3]; · iexact Hb3
    isplitl [Hs6]; · iexact Hs6
    isplitl [Hr9]; · iexact Hr9
    isplitl [Hc7]; · iexact Hc7
    iexact Ha7
  iintro %v591 %v592 ⟨HO, Hc6, Hz7, Ho1⟩
  try dsimp only
  iapply (part19 m K c) $$ [HO Hc8 Ha8 Hc9 Ha9 Hc4 Ha4 Hc5 Ha5]
  · isplitr; · iexact HR
    isplitr; · iexact Hl
    isplitl [HO]; · iexact HO
    isplitl [Hc8]; · iexact Hc8
    isplitl [Ha8]; · iexact Ha8
    isplitl [Hc9]; · iexact Hc9
    isplitl [Ha9]; · iexact Ha9
    isplitl [Hc4]; · iexact Hc4
    isplitl [Ha4]; · iexact Ha4
    isplitl [Hc5]; · iexact Hc5
    iexact Ha5
  iintro ⟨HO, ⟨Hz8, Ho2⟩, ⟨Hz9, Ho3⟩, ⟨Hz4, Hq0⟩, Hz5, Hq1⟩
  simp only [Prog.lift, Prog.bind_op, Prog.bind_ret, Prog.pure_eq_ret]
  iapply (wait_rows m K c 6 (by decide) (by decide) (amt_gsnd 2) _ rfl _ _ _ _) $$ [HO Hc6 Ha6]
  · isplitr; · iexact HR
    isplitr; · iexact Hl
    isplitl [HO]; · iexact HO
    isplitl [Hc6]; · iexact Hc6
    iexact Ha6
  iintro ⟨HO, Hz6, Hq2⟩
  ihave Hq2 := (rows_6 m c) $$ Hq2
  rw [wp_ret]; imodintro
  rw [wp_ret]; imodintro
  iapply Hk
  unfold bodyEnd zeros
  isplitl [HO]; · iexact HO
  isplitl [Hx]
  · iexists (rowsIn m c); iapply hx'; iexact Hx
  isplitl [Hd0 Hd1 Hd2]
  · iapply (cand_join c _ _ _)
    isplitl [Hd0]; · iexact Hd0
    isplitl [Hd1]; · iexact Hd1
    iexact Hd2
  isplitl [Hsrc]; · iexact Hsrc
  isplitl [Hz0 Hz1 Hz2 Hz3 Hz4 Hz5 Hz6 Hz7 Hz8 Hz9]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    iexact Hz9
  iapply (out_split c (outC m c)).2
  isplitl [Hq0 Hq1 Hq2]
  · iapply (out_shares c (outC m c)).2
    isplitl [Hq0]; · iexact Hq0
    isplitl [Hq1]; · iexact Hq1
    iexact Hq2
  isplitl [Ho1]; · iexact Ho1
  isplitl [Ho2]; · iexact Ho2
  iexact Ho3

end Cert.KernelProof
-- ==== Proof.Launch.lean ====
/-
# The run of the kernel on the eight devices

The launch data, the dealing of the tokens to the devices that pay with them, the credits at launch, and the run: every
execution ends with each device's result at `outC`, the input as it was and every semaphore at zero.
-/
module

public import proofs.«01_k».proof.Proof.Body
public import proofs.«01_k».proof.Proof.Gen.Kernel.Points
public import Idealize.ShloMosaic.Lib.Pipeline.CollectiveSegs
public import Idealize.ShloMosaic.Lib.Quiescent

@[expose] public section

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
local notation "𝕄" => MT nD τ sig Unit (Elt F) ℕ UU ℕ
variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The input's array, split at the rows a device reads -/

/-- The whole input array of device `c`. -/
def argPts (c : Dev nD) : sProp 𝕄 := ((c : Thread nD τ).loc main_arg0) ↦{fullShare} (m ((c : Thread nD τ).loc main_arg0))
/-- The rows of it that the kernel does not read. -/
def argRest (c : Dev nD) : sProp 𝕄 :=
  ((c : Thread nD τ).loc main_arg0) ↦[Finset.univ \ (srcRows c).view.set]{fullShare} (m ((c : Thread nD τ).loc main_arg0))

theorem arg_split (c : Dev nD) : (argPts m c : sProp 𝕄) ⊣⊢ iprop(srcPts m c ∗ argRest m c) := by
  have h : (Finset.univ : Finset (Idx ((c : Thread nD τ).loc main_arg0))) = (srcRows c).view.set ∪ (Finset.univ \ (srcRows c).view.set) :=
    (Finset.union_sdiff_of_subset (Finset.subset_univ _)).symm
  unfold argPts srcPts argRest
  rw [show (((c : Thread nD τ).loc main_arg0) ↦{fullShare} (m ((c : Thread nD τ).loc main_arg0)) : sProp 𝕄)
    = (((c : Thread nD τ).loc main_arg0) ↦[(srcRows c).view.set ∪ (Finset.univ \ (srcRows c).view.set)]{fullShare} (m ((c : Thread nD τ).loc main_arg0))) from
      congrArg (fun S => (((c : Thread nD τ).loc main_arg0) ↦[S]{fullShare} (m ((c : Thread nD τ).loc main_arg0)) : sProp 𝕄)) h]
  exact pointsTo_union Finset.disjoint_sdiff

/-! ## The launch data -/

/-- What a device's body starts from, besides its scratch buffers. -/
def start (c : Dev nD) : sProp 𝕄 := iprop((∃ K, ghost m K c) ∗ creds0 c ∗ levAts L lv ∗ argPts m c)

def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratches c)
def Φ₁ (c : Dev nD) : sProp 𝕄 := iprop(scratches c ∗ zeros c ∗ argPts m c)

def dats (_ : Fin 1) (c : Dev nD) : Dat τ (Elt F) Unit ℕ UU ℕ cfg0 c where
  A w := m ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => owe1 c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (outC m c))

set_option maxRecDepth 4000 in
theorem sound (c : Dev nD) : bodyPre m c ⊢ wp frame (wpE (defs₀ (F := F)) 𝒱₀ (c : Thread nD τ) none) Set.univ
    (cc0_body (F := F) (Memref.whole main_arg0) (Memref.isWhole_whole _) (Memref.whole cc0_stg0_0) (Memref.isWhole_whole _) (Memref.whole cc0_scratch0) (Memref.isWhole_whole _) (Memref.whole cc0_scratch1) (Memref.isWhole_whole _)
      cc0_scratch2 cc0_scratch3 cc0_scratch4 cc0_scratch5) (fun _ => bodyPost m c) := by
  unfold bodyPre Φ₀ start scratches Dat.owesAt Pipeline.owesWithin
  rw [show (dats m 0 c).owed t0_0.castSucc = owe1 c from rfl]
  iintro ⟨⟨⟨⟨%K, Hg⟩, Hc, Hl, Harg⟩, ⟨%f, Hf⟩, ⟨%g, Hgg⟩⟩, ⟨%W, %hW, HO⟩, ⟨%d, %h, %hh, Hout⟩⟩
  ihave Hs := (arg_split m c).1 $$ Harg
  icases Hs with ⟨Hsrc, Hrest⟩
  iapply (sound_body m K c f g h fun _ => bodyPost m c)
  isplitl [Hg]; · iexact Hg
  isplitl [Hc]; · iexact Hc
  isplitl [Hl]; · iexact Hl
  isplitl [HO]
  · unfold owesE; iexists W; iexact HO
  isplitl [Hsrc]; · iexact Hsrc
  isplitl [Hf]; · iexact Hf
  isplitl [Hgg]; · iexact Hgg
  isplitl [Hout]; · iexact Hout
  unfold bodyEnd bodyPost Φ₁ scratches owesE Dat.owesAt Pipeline.owesWithin
  rw [show (dats m 0 c).owed t0_0.succ = 0 from rfl]
  iintro ⟨⟨%W', HO⟩, H0, H1, Hsrc, Hz, Hout⟩
  isplitl [H0 H1 Hz Hsrc Hrest]
  · isplitl [H0 H1]
    · isplitl [H0]; · iexact H0
      iexact H1
    isplitl [Hz]; · iexact Hz
    iapply (arg_split m c).2
    isplitl [Hsrc]; · iexact Hsrc
    iexact Hrest
  isplitl [HO]
  · iexists W'
    isplitr; · ipureintro; exact fun _ _ => Or.inl trivial
    iexact HO
  iexists _; isplitr; · (ipureintro; rfl)
  iexact Hout

set_option maxRecDepth 4000 in
/-- The body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound m c

/-! ## The ghost state's dealing -/

theorem ownSemFacts : Pipeline.OwnSemFacts cfg0.spec osem := by decide

theorem share_eq (c : Dev nD) (w : Fin cfg0.W) : (dats m 0 c).share w = fullShare := by unfold Dat.share; split <;> rfl

theorem csem_injective : Function.Injective (csem : Fin 10 → SemLoc sig) := by decide

theorem kcell_injective : Function.Injective (kcell : Dev nD × Fin 10 → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- Token `j` of a device: its barrier's four duties, then one of each other cell. -/
def tokCell : Fin 13 → Fin 10 := ![0, 0, 0, 0, 1, 2, 3, 4, 5, 6, 7, 8, 9]
def tokDuty : Fin 13 → Fin 4 := ![0, 1, 2, 3, 0, 0, 0, 0, 0, 0, 0, 0, 0]
abbrev tokOf (cj : Dev nD × Fin 13) : GSem nD τ sig × ℕ × Fin 4 := (cell cj.1 (tokCell cj.2), 0, tokDuty cj.2)

theorem tokOf_injective : Function.Injective tokOf := by
  rintro ⟨c, j⟩ ⟨c', j'⟩ h
  have h1 : c = c' := congrArg (fun x : GSem nD τ sig × ℕ × Fin 4 => x.1.1.1) h
  have h2 : tokCell j = tokCell j' := csem_injective (congrArg (fun x : GSem nD τ sig × ℕ × Fin 4 => x.1.2) h)
  have h3 : tokDuty j = tokDuty j' := congrArg (fun x : GSem nD τ sig × ℕ × Fin 4 => x.2.2) h
  have h4 : ∀ j j' : Fin 13, tokCell j = tokCell j' → tokDuty j = tokDuty j' → j = j' := by decide
  rw [h1, h4 j j' h2 h3]

def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 :=
  iprop(dutyTok ER (cell c 0) 0 0 ∗ dutyTok ER (cell c 0) 0 1 ∗ dutyTok ER (cell c 0) 0 2 ∗ dutyTok ER (cell c 0) 0 3
    ∗ dutyTok ER (cell c 1) 0 0 ∗ dutyTok ER (cell c 2) 0 0 ∗ dutyTok ER (cell c 3) 0 0
    ∗ dutyTok ER (cell c 4) 0 0 ∗ dutyTok ER (cell c 5) 0 0 ∗ dutyTok ER (cell c 6) 0 0
    ∗ dutyTok ER (cell c 7) 0 0 ∗ dutyTok ER (cell c 8) 0 0 ∗ dutyTok ER (cell c 9) 0 0)

/-- What the launch element deals device `c`, and what the global step makes of it. -/
def G (c : Dev nD) : sProp 𝕄 :=
  iprop((bigSep Finset.univ fun k : Fin 10 => roundState ER (sched m) (cell c k) 0)
    ∗ (bigSep Finset.univ fun k : Fin 10 => iprop(atPos ER (cell c k) 0 ∅ 0 ∗ reached ER (cell c k) 0)) ∗ toks c)
def G' (c : Dev nD) : sProp 𝕄 := iprop(∃ K, ghost m K c)

theorem bigSep_ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem bigSep_thirteen (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 10 => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_thirteen]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0 ∗ semVal (cell c 6) 0
      ∗ semVal (cell c 7) 0 ∗ semVal (cell c 8) 0 ∗ semVal (cell c 9) 0) := by
  rw [Pipeline.ownSems0_eq_of_list c osem [0, 1, 2, 3, 4, 5, 6, 7, 8] (by decide) (by decide)]; rfl
theorem unscopedSems0_eq (c : Dev nD) : (unscopedSems0 c : sProp 𝕄) = semVal (cell c 0) 0 := by
  unfold unscopedSems0; rw [bigSep_eq_bigSepL_of_eq [SemLoc.reg barS] (by decide) (by decide)]; rfl

theorem zeros_eq (c : Dev nD) :
    iprop(unscopedSems0 c ∗ Pipeline.ownSems0 (Ix := Unit) (Name := ℕ) (U := UU) (Lvl := ℕ) (Val := Elt F) (τ := τ) osem c) = (zeros c : sProp 𝕄) := by
  rw [ownSems0_eq, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (cell c k)))
          ∗ (bigSep Finset.univ fun k => iprop(atPos ER (cell c k) 0 ∅ 0 ∗ reached ER (cell c k) 0)) ∗ toks c) := by
  unfold G
  iintro ⟨Hos, Hus, Hst, Hat, Htok⟩
  have hz : iprop(unscopedSems0 c ∗ Pipeline.ownSems0 (Ix := Unit) (Name := ℕ) (U := UU) (Lvl := ℕ) (Val := Elt F) (τ := τ) osem c)
      ⊢ (bigSep Finset.univ fun k : Fin 10 => semVal (cell c k) 0 : sProp 𝕄) := by
    rw [zeros_eq, bigSep_ten]; exact BI.Entails.refl _
  ihave Hv := hz $$ [Hos Hus]
  · isplitl [Hus]; · iexact Hus
    iexact Hos
  imod (show iprop((bigSep Finset.univ fun k : Fin 10 => semVal (cell c k) 0) ∗ bigSep Finset.univ fun k : Fin 10 => roundState ER (sched m) (cell c k) 0)
      ⊢ (|={Set.univ}=> bigSep Finset.univ fun k => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to the devices that pay with them: a peer's barrier and receive tokens change places. -/
theorem toks_around : (bigSep Finset.univ fun c : Dev nD => (toks c : sProp 𝕄)) ⊢ bigSep Finset.univ fun c : Dev nD => payToks c := by
  unfold toks payToks
  simp only [bigSep_sep']
  rw [bigSep_univ_equiv (peerEquiv 0) (fun c : Dev nD => (dutyTok ER (cell c 0) 0 0 : sProp 𝕄)),
    bigSep_univ_equiv (peerEquiv 1) (fun c : Dev nD => (dutyTok ER (cell c 0) 0 1 : sProp 𝕄)),
    bigSep_univ_equiv (peerEquiv 2) (fun c : Dev nD => (dutyTok ER (cell c 0) 0 2 : sProp 𝕄)),
    bigSep_univ_equiv (peerEquiv 3) (fun c : Dev nD => (dutyTok ER (cell c 0) 0 3 : sProp 𝕄)),
    bigSep_univ_equiv (peerEquiv 0) (fun c : Dev nD => (dutyTok ER (cell c 3) 0 0 : sProp 𝕄)),
    bigSep_univ_equiv (peerEquiv 1) (fun c : Dev nD => (dutyTok ER (cell c 7) 0 0 : sProp 𝕄)),
    bigSep_univ_equiv (peerEquiv 2) (fun c : Dev nD => (dutyTok ER (cell c 8) 0 0 : sProp 𝕄)),
    bigSep_univ_equiv (peerEquiv 3) (fun c : Dev nD => (dutyTok ER (cell c 9) 0 0 : sProp 𝕄))]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 10 → ℕ) (c : Dev nD) : iprop(records m K ∗ poss c ∗ payToks c) ⊢ G' m c := by
  unfold G' ghost
  iintro H
  iexists K
  iexact H

theorem regroup :
    (bigSep Finset.univ fun c : Dev nD => iprop((bigSep Finset.univ fun k => iprop(∃ κ : ℕ, cellInv ER (sched m) κ (cell c k)))
          ∗ (bigSep Finset.univ fun k => iprop(atPos ER (cell c k) 0 ∅ 0 ∗ reached ER (cell c k) 0)) ∗ toks c) : sProp 𝕄)
      ⊢ bigSep Finset.univ (G' m) := by
  rw [bigSep_sep', bigSep_sep', ← bigSep_univ_prod (fun ck : Dev nD × Fin 10 => iprop(∃ κ : ℕ, cellInv ER (sched m) κ (kcell ck))),
    bigSep_congr (s := Finset.univ) (fun (c : Dev nD) _ => bigSep_sep' Finset.univ (fun k : Fin 10 => (atPos ER (cell c k) 0 ∅ 0 : sProp 𝕄)) (fun k => reached ER (cell c k) 0)),
    bigSep_sep', ← bigSep_univ_prod (fun ck : Dev nD × Fin 10 => (reached ER (kcell ck) 0 : sProp 𝕄))]
  iintro ⟨HI, ⟨Hat, #HR⟩, Htok⟩
  ihave HK := (BI.bigSep_exists_pi Finset.univ (fun (ck : Dev nD × Fin 10) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 10 => (atPos ER (cell c k) 0 ∅ 0 : sProp 𝕄)) payToks).symm).trans
      (bigSep_mono fun c _ => show _ ⊢ iprop(poss c ∗ payToks c) from Entails.of_eq (by unfold poss; rw [bigSep_ten])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

/-- What one promised tally adds at a cell. -/
theorem tally_peer (j : Fin 4) (k k' : Fin 10) (N : ℕ) (c d : Dev nD) :
    (tallyAt (cell (peer j d) k) () N : CellTallies nD τ sig Unit) (cell c k') () = if d = peer j c then (if k' = k then N else 0) else 0 := by
  rw [tallyAt_apply]
  by_cases h : d = peer j c
  · subst h
    rw [peer_peer, if_pos rfl]
    by_cases hk : k' = k
    · rw [if_pos ⟨by rw [hk], rfl⟩, if_pos hk]
    · rw [if_neg fun h => hk (csem_injective (congrArg Prod.snd h.1)), if_neg hk]
  · rw [if_neg h, if_neg]
    rintro ⟨h1, -⟩
    have h2 : c = peer j d := congrArg (fun g : GSem nD τ sig => g.1.1) h1
    exact h (by rw [h2, peer_peer])

theorem owe_at (c d : Dev nD) (k : Fin 10) : owe1 d (cell c k) ()
    = (if d = peer 3 c then (if k = 9 then NO else 0) else 0) + (if d = peer 2 c then (if k = 8 then NO else 0) else 0)
      + (if d = peer 1 c then (if k = 7 then NO else 0) else 0) + (if d = peer 0 c then (if k = 3 then NY else 0) else 0)
      + (if d = peer 3 c then (if k = 0 then 1 else 0) else 0) + (if d = peer 2 c then (if k = 0 then 1 else 0) else 0)
      + (if d = peer 1 c then (if k = 0 then 1 else 0) else 0) + (if d = peer 0 c then (if k = 0 then 1 else 0) else 0) := by
  unfold owe1 owe2 owe3 owe4 owe5 owe6 owe7 owe8
  simp only [Pi.add_apply, Finsupp.add_apply, tally_peer]

theorem launch_at (c : Dev nD) (k : Fin 10) (N : ℕ)
    (hN : (if k = 9 then NO else 0) + (if k = 8 then NO else 0) + (if k = 7 then NO else 0) + (if k = 3 then NY else 0)
      + (if k = 0 then 1 else 0) + (if k = 0 then 1 else 0) + (if k = 0 then 1 else 0) + (if k = 0 then 1 else 0) = N) :
    tallyOn (cell c k) (launchCredit (Pipeline.owing owe1) 0 (cell c k)) = (tallyAt (cell c k) () N : CellTallies nD τ sig Unit) := by
  unfold tallyAt; refine congrArg _ (Finsupp.ext fun u => ?_); cases u
  rw [Pipeline.launchCredit_owing, Finsupp.single_eq_same, Finset.sum_congr rfl fun d _ => owe_at c d k]
  simp only [Finset.sum_add_distrib, Finset.sum_ite_eq', Finset.mem_univ, if_true]
  exact hN

theorem creds (c : Dev nD) : (Pipeline.launchCred owe1 c : sProp 𝕄) ⊢ creds0 c := by
  unfold Pipeline.launchCred
  refine (bigSep_subset (t := [csem 0, csem 3, csem 7, csem 8, csem 9].toFinset) (Finset.subset_univ _)).trans ?_
  rw [bigSep_eq_bigSepL _ (by decide)]
  unfold creds0
  have e0 := launch_at c 0 4 rfl
  have e3 := launch_at c 3 NY (by simp)
  have e7 := launch_at c 7 NO (by simp)
  have e8 := launch_at c 8 NO (by simp)
  have e9 := launch_at c 9 NO (by simp)
  rw [← e0, ← e3, ← e7, ← e8, ← e9]
  exact BI.Entails.refl _

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred owe1 c ∗ prngReg c (ρ c) ∗ G' m c)
      ⊢ |={Set.univ}=> iprop(start m c ∗ emp) := by
  rw [Pipeline.unscopedRestP_none, unscopedRest0_eq]
  iintro ⟨Harg, Hlev, Hcr, -, HG⟩
  ihave Hc := (creds (F := F) c) $$ Hcr
  imodintro
  unfold start G' argPts
  isplitl
  · isplitl [HG]; · iexact HG
    isplitl [Hc]; · iexact Hc
    isplitl [Hlev]; · iexact Hlev
    iexact Harg
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs]; · iexact Hs
  iexact Hr

theorem phi1_exit (c : Dev nD) :
    (dats m 0 c).Φ (Fin.last cfg0.N) ⊢ iprop((unscopedSems0 c ∗ argPts m c) ∗ Pipeline.ownSems0 osem c ∗ Pipeline.scopedRest cfg0.spec c) := by
  rw [show (dats m 0 c).Φ (Fin.last cfg0.N) = Φ₁ m c from rfl, scopedRest0_eq]
  unfold Φ₁ scratches
  rw [← zeros_eq]
  iintro ⟨Hr, ⟨Hu, Ho⟩, Ha⟩
  isplitl [Hu Ha]
  · isplitl [Hu]; · iexact Hu
    iexact Ha
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait c _ 0 (by fin_cases w <;> fin_cases s <;> decide) (by
      rcases t with ⟨_ | _, ht⟩
      · exact above_owe1 c
      · exact Above.zero 0)

/-! ## The run -/

theorem finalA_read (c : Dev nD) : (win0_0.blk t0_0).view.read (Elt F) ((dats m 0 c).arrAt (0 : Fin 1) cfg0.N) = outC m c := by
  rw [show cfg0.N = (t0_0 : Fin cfg0.N).val + 1 from rfl, (dats m 0 c).arrAt_succ (0 : Fin 1) t0_0, if_pos (flush0_0 _)]
  exact View.read_write_univ _ _

/-- Device `c`'s result array ends at `outC`. -/
theorem finalA (c : Dev nD) : (dats m 0 c).arrAt (0 : Fin 1) cfg0.N = outC m c := by
  have hz : (fun a => (win0_0.index t0_0) a * main_v1.ty.shape.size a) = fun _ => 0 := funext fun a => by fin_cases a <;> decide
  have ho := finalA_read m c
  have hr := Memref.read_access_unit_zero (Elt F) main_v1 hz (fun a => by fin_cases a <;> decide) ((dats m 0 c).arrAt (0 : Fin 1) cfg0.N)
  exact hr.symm.trans ho

/-- Every execution on the eight devices ends with each device's result at `outC`, its input as it was, every counter zero. -/
theorem run_main : θ_run defs (onTc (τ := τ) (main (F := F))) (s₀ m ρ) (fun r =>
    (∀ c : Dev nD, r.2.mem ((c : Thread nD τ).loc main_v1) = outC m c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owe1) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ argPts m c)) (Z := fun _ => iprop(emp))
    (hX := start_intro m ρ) (hin := phi0_intro m) (hout := phi1_exit m)
    (QY := fun c s => (s.mem ((c : Thread nD τ).loc main_arg0) = m ((c : Thread nD τ).loc main_arg0))
      ∧ ∀ sm : SemLoc sig, sm.isScoped .tc = false → s.sem ((c.tc : Thread nD τ), sm) = 0)
    (hY := fun c s' => by
      unfold argPts
      iintro ⟨⟨Hu, Ha⟩, -, HSI⟩
      icombine HSI Ha gives %ha
      imod (Pipeline.unscopedSems0_read (X := unscopedSems0 c) (c := c) fupd_intro s') $$ [Hu HSI] with ⟨%hs, HSI⟩
      · isplitl [Hu] <;> iassumption
      imodintro
      isplitr
      · ipureintro; exact ⟨funext fun i => ha i (Finset.mem_univ _), hs⟩
      iexact HSI)
    (hQ := fun _ h hs => ⟨fun c => ⟨((h c).1 (0 : Fin 1)).trans (finalA m c), (h c).2.2.1⟩, sem_eq_zero hs fun c => (h c).2.2.2⟩)

end Cert.KernelProof

end
-- ==== Proof.Nth.lean ====
/-
# The `i`-th greatest value of a family

`IsNth f i v` says that `v` is the `i`-th greatest (from 0) of the values `f j`, repeats counted, by counting: for every
upward closed set `U`, `v` is in it exactly when more than `i` of the values are. It determines `v`, it passes through
monotone maps, and both a chain of "take the greatest and strike it out" and a descending arrangement produce it.
-/
module

public import Mathlib.Data.Fintype.Card
public import Mathlib.Data.Fintype.Sum
public import Mathlib.Data.Fintype.BigOperators
public import Mathlib.Order.Lattice
public import Mathlib.Data.Int.Order.Basic
public import Mathlib.Tactic.Linarith
public import Mathlib.Order.Interval.Finset.Fin
public import Mathlib.Algebra.BigOperators.Fin

@[expose] public section

noncomputable section

namespace Cert.KernelProof

open Classical

/-- A set of integers closed upwards. -/
def IsUp (U : ℤ → Prop) : Prop := ∀ a b, a ≤ b → U a → U b

/-- The positions whose value lies in `U`. -/
def posIn {n : ℕ} (f : Fin n → ℤ) (U : ℤ → Prop) : Finset (Fin n) := Finset.univ.filter fun j => U (f j)

theorem mem_posIn {n : ℕ} (f : Fin n → ℤ) (U : ℤ → Prop) (j : Fin n) : j ∈ posIn f U ↔ U (f j) := by
  simp [posIn]

/-- `v` is the `i`-th greatest value of `f`. -/
def IsNth {n : ℕ} (f : Fin n → ℤ) (i : ℕ) (v : ℤ) : Prop := ∀ U, IsUp U → (U v ↔ i < (posIn f U).card)

theorem isUp_ge (t : ℤ) : IsUp fun x => t ≤ x := fun _ _ h h' => le_trans h' h

/-- There is one `i`-th greatest value. -/
theorem IsNth.unique {n : ℕ} {f : Fin n → ℤ} {i : ℕ} {v w : ℤ} (hv : IsNth f i v) (hw : IsNth f i w) : v = w :=
  le_antisymm ((hw _ (isUp_ge v)).mpr ((hv _ (isUp_ge v)).mp (le_refl v)))
    ((hv _ (isUp_ge w)).mpr ((hw _ (isUp_ge w)).mp (le_refl w)))

/-- A monotone map carries the `i`-th greatest value to that of the images. -/
theorem IsNth.map {n : ℕ} {f : Fin n → ℤ} {i : ℕ} {v : ℤ} (hv : IsNth f i v) (g : ℤ → ℤ) (hg : Monotone g) :
    IsNth (fun j => g (f j)) i (g v) :=
  fun U hU => hv (fun x => U (g x)) fun a b hab h => hU _ _ (hg hab) h

/-- A value with `S.card` positions at least it, one position holding it, and the rest at most it. -/
theorem isNth_of_set {n : ℕ} (f : Fin n → ℤ) (S : Finset (Fin n)) (v : ℤ) (j₀ : Fin n) (h₀ : j₀ ∉ S) (hv : f j₀ = v)
    (hS : ∀ j ∈ S, v ≤ f j) (hc : ∀ j, j ∉ S → f j ≤ v) : IsNth f S.card v := by
  intro U hU
  constructor
  · intro h
    have hsub : insert j₀ S ⊆ posIn f U := by
      intro j hj
      rw [mem_posIn]
      rcases Finset.mem_insert.mp hj with rfl | hj
      · rw [hv]; exact h
      · exact hU _ _ (hS j hj) h
    have := Finset.card_le_card hsub
    rw [Finset.card_insert_of_notMem h₀] at this
    omega
  · intro h
    by_contra hn
    have hsub : posIn f U ⊆ S := by
      intro j hj
      by_contra hjS
      exact hn (hU _ _ (hc j hjS) ((mem_posIn f U j).mp hj))
    have := Finset.card_le_card hsub
    omega

/-- Values in descending order along an arrangement of the positions. -/
theorem isNth_of_antitone {n : ℕ} (f : Fin n → ℤ) (σ : Fin n → Fin n) (hσ : Function.Bijective σ)
    (hf : ∀ i j, i < j → f (σ j) ≤ f (σ i)) (i : Fin n) : IsNth f i.val (f (σ i)) := by
  have hcard : ((Finset.univ.filter fun k : Fin n => k < i).image σ).card = i.val := by
    rw [Finset.card_image_of_injective _ hσ.1]
    have : (Finset.univ.filter fun k : Fin n => k < i) = Finset.Iio i := by ext k; simp
    rw [this, Fin.card_Iio]
  have := isNth_of_set f ((Finset.univ.filter fun k : Fin n => k < i).image σ) (f (σ i)) (σ i)
    (by
      intro h
      obtain ⟨k, hk, e⟩ := Finset.mem_image.mp h
      have := hσ.1 e
      simp [this] at hk)
    rfl
    (by
      intro j hj
      obtain ⟨k, hk, rfl⟩ := Finset.mem_image.mp hj
      exact hf k i (by simpa using hk))
    (by
      intro j hj
      obtain ⟨k, rfl⟩ := hσ.2 j
      rcases lt_trichotomy k i with h | h | h
      · exact absurd (Finset.mem_image_of_mem σ (by simpa using h)) hj
      · rw [h]
      · exact hf i k h)
  rwa [hcard] at this

/-- Rounds of "take the greatest, strike it out": with `low` below every value and the values different, round `t` takes
    the `t`-th greatest. -/
theorem isNth_of_rounds {n : ℕ} (K : Fin n → ℤ) (low : ℤ) (hinj : Function.Injective K) (hlow : ∀ j, low < K j)
    (g : ℕ → Fin n → ℤ) (M : ℕ → ℤ) (h0 : ∀ j, g 0 j = K j) (hs : ∀ t j, g (t + 1) j = if g t j = M t then low else g t j)
    (hle : ∀ t j, g t j ≤ M t) (hex : ∀ t, ∃ j, g t j = M t) (t : ℕ) (ht : t < n) : IsNth K t (M t) := by
  have inv : ∀ t, t ≤ n → ∃ S : Finset (Fin n), S.card = t ∧ (∀ j, g t j = if j ∈ S then low else K j)
      ∧ ∀ j ∈ S, ∀ j', j' ∉ S → K j' ≤ K j := by
    intro t
    induction t with
    | zero => exact fun _ => ⟨∅, rfl, fun j => by simp [h0], fun j hj => absurd hj (Finset.notMem_empty j)⟩
    | succ t ih =>
      intro ht
      obtain ⟨S, hc, hg, hd⟩ := ih (by omega)
      obtain ⟨q, hq⟩ : ∃ q, q ∉ S := by
        by_contra hall
        push Not at hall
        have : S = Finset.univ := Finset.eq_univ_iff_forall.mpr hall
        rw [this, Finset.card_univ, Fintype.card_fin] at hc
        omega
      obtain ⟨j₀, hj₀⟩ := hex t
      have hM : low < M t := lt_of_lt_of_le (hlow q) (by have := hle t q; rw [hg q, if_neg hq] at this; exact this)
      have hj₀S : j₀ ∉ S := by
        intro h
        rw [hg j₀, if_pos h] at hj₀
        omega
      have hK₀ : K j₀ = M t := by rw [hg j₀, if_neg hj₀S] at hj₀; exact hj₀
      refine ⟨insert j₀ S, by rw [Finset.card_insert_of_notMem hj₀S, hc], fun j => ?_, fun j hj j' hj' => ?_⟩
      · rw [hs t j, hg j]
        by_cases hjS : j ∈ S
        · rw [if_pos hjS, if_neg (by omega), if_pos (Finset.mem_insert_of_mem hjS)]
        · rw [if_neg hjS]
          by_cases hjj : j = j₀
          · subst hjj
            rw [if_pos hK₀, if_pos (Finset.mem_insert_self _ _)]
          · rw [if_neg (fun h => hjj (hinj (h.trans hK₀.symm))), if_neg (by simp [hjj, hjS])]
      · have hj'S : j' ∉ S := fun h => hj' (Finset.mem_insert_of_mem h)
        rcases Finset.mem_insert.mp hj with rfl | hj
        · rw [hK₀]
          have := hle t j'
          rwa [hg j', if_neg hj'S] at this
        · exact hd j hj j' hj'S
  obtain ⟨S, hc, hg, hd⟩ := inv t ht.le
  obtain ⟨q, hq⟩ : ∃ q, q ∉ S := by
    by_contra hall
    push Not at hall
    have : S = Finset.univ := Finset.eq_univ_iff_forall.mpr hall
    rw [this, Finset.card_univ, Fintype.card_fin] at hc
    omega
  obtain ⟨j₀, hj₀⟩ := hex t
  have hM : low < M t := lt_of_lt_of_le (hlow q) (by have := hle t q; rw [hg q, if_neg hq] at this; exact this)
  have hj₀S : j₀ ∉ S := by
    intro h
    rw [hg j₀, if_pos h] at hj₀
    omega
  have hK₀ : K j₀ = M t := by rw [hg j₀, if_neg hj₀S] at hj₀; exact hj₀
  have := isNth_of_set K S (M t) j₀ hj₀S hK₀ (fun j hj => hK₀ ▸ hd j hj j₀ hj₀S)
    (fun j hj => by have := hle t j; rwa [hg j, if_neg hj] at this)
  rwa [hc] at this

/-- The values of a family cut in two halves, counted. -/
theorem card_posIn_halves {n : ℕ} (f : Fin (n + n) → ℤ) (f₀ f₁ : Fin n → ℤ)
    (h₀ : ∀ j : Fin n, f (Fin.castAdd n j) = f₀ j) (h₁ : ∀ j : Fin n, f (Fin.natAdd n j) = f₁ j) (U : ℤ → Prop) :
    (posIn f U).card = (posIn f₀ U).card + (posIn f₁ U).card := by
  have e : ∀ {k : ℕ} (f : Fin k → ℤ), (posIn f U).card = ∑ j : Fin k, if U (f j) then 1 else 0 := by
    intro k f
    rw [posIn, Finset.card_filter]
  rw [e, e, e, Fin.sum_univ_add]
  simp only [h₀, h₁]

end Cert.KernelProof
-- ==== Proof.Extract.lean ====
/-
# The rounds take the greatest keys in turn

Row by row, round `n` of "take the row's largest key and strike it out" takes the `n`-th greatest of the row's keys, given
that these are different and none of them is the smallest word.
-/
module

public import proofs.«01_k».proof.Proof.Contents
public import proofs.«01_k».proof.Proof.Nth
public import Idealize.ShloMosaic.Lib.Pointwise
public import Idealize.ShloMosaic.Lib.SortNet.Extract

@[expose] public section

noncomputable section

namespace Cert.KernelProof

open Cert.Kernel Cert.Kernel.Gen
open Idealize.ShloMosaic
open Idealize.ShloMosaic.TcCoe

/-- A row's largest key, as a fold over the columns. -/
theorem rowMax_fold (k : IVec S256x8192 32) (r : Fin 256) :
    rowMax k (ix2 r 0) = Finset.univ.fold IntOp.maxsi 2147483648#32 fun j : Fin 8192 => k (ix2 r j) := by
  unfold rowMax
  simp only [pointwise]

/-- One strike, at one place. -/
theorem strike_apply (k : IVec S256x8192 32) (r : Fin 256) (j : Fin 8192) :
    strike k (ix2 r j) = if k (ix2 r j) = rowMax k (ix2 r 0) then 2147483648#32 else k (ix2 r j) := by
  unfold strike hits lowest
  simp only [pointwise]
  show Scalar.select (IntOp.cmpi .eq (k (ix2 r j)) (rowMax k (ix2 r 0))) 2147483648#32 (k (ix2 r j)) = _
  have e : ∀ a b : BitVec 32, IntOp.cmpi .eq a b = BitVec.ofBool (a == b) := fun _ _ => rfl
  unfold Scalar.select
  rw [e]
  by_cases h : k (ix2 r j) = rowMax k (ix2 r 0)
  · rw [if_pos h, if_pos (by rw [h, beq_self_eq_true]; rfl)]
  · rw [if_neg h, if_neg (by rw [beq_false_of_ne h]; decide)]

/-- Row `r`'s largest key is at least every key of the row, and is one of them. -/
theorem rowMax_spec (k : IVec S256x8192 32) (r : Fin 256) :
    (∀ j : Fin 8192, (k (ix2 r j)).toInt ≤ (rowMax k (ix2 r 0)).toInt) ∧ ∃ j : Fin 8192, k (ix2 r j) = rowMax k (ix2 r 0) := by
  rw [rowMax_fold]
  obtain ⟨h1, h2, h3⟩ := SortNet.fold_maxsi_spec (fun j : Fin 8192 => k (ix2 r j)) Finset.univ 2147483648#32
  refine ⟨fun j => h2 j (Finset.mem_univ j), ?_⟩
  rcases h3 with h3 | ⟨j, _, h3⟩
  · refine ⟨0, ?_⟩
    have := h2 0 (Finset.mem_univ 0)
    rw [h3] at this ⊢
    exact BitVec.eq_of_toInt_eq (le_antisymm this (SortNet.intMin_toInt_le _))
  · exact ⟨j, h3.symm⟩

/-- Round `n` takes the `n`-th greatest key of the row. -/
theorem isNth_rowMax (k : IVec S256x8192 32) (r : Fin 256)
    (hinj : Function.Injective fun j : Fin 8192 => (k (ix2 r j)).toInt)
    (hlow : ∀ j : Fin 8192, (2147483648#32 : BitVec 32).toInt < (k (ix2 r j)).toInt) (n : ℕ) (hn : n < 8192) :
    IsNth (fun j : Fin 8192 => (k (ix2 r j)).toInt) n (rowMax (keys k n) (ix2 r 0)).toInt := by
  refine isNth_of_rounds _ (2147483648#32 : BitVec 32).toInt hinj hlow (fun t j => (keys k t (ix2 r j)).toInt)
    (fun t => (rowMax (keys k t) (ix2 r 0)).toInt) (fun j => rfl) (fun t j => ?_) (fun t => (rowMax_spec (keys k t) r).1)
    (fun t => ?_) n hn
  · show (strike (keys k t) (ix2 r j)).toInt = _
    rw [strike_apply]
    by_cases h : keys k t (ix2 r j) = rowMax (keys k t) (ix2 r 0)
    · rw [if_pos h, if_pos (congrArg BitVec.toInt h)]
    · rw [if_neg h, if_neg fun h' => h (BitVec.eq_of_toInt_eq h')]
  · obtain ⟨j, hj⟩ := (rowMax_spec (keys k t) r).2
    exact ⟨j, congrArg BitVec.toInt hj⟩

end Cert.KernelProof
-- ==== Proof.Network.lean ====
/-
# The merging network

Five stages of exchanges at distances 16, 8, 4, 2, 1 over 32 lanes, on integers (`net`). Of lanes that hold the greater
of two descending lists of 32, one of them reversed, the network makes the 32 greatest of both, descending
(`isNth_net`). The argument is by thresholds: for an upward closed set the lanes inside it form an arc, and what each
stage makes of an arc is computed on 32-bit masks, for every arc.
-/
module

public import proofs.«01_k».proof.Proof.Nth
public import Mathlib.Data.Nat.Bitwise

@[expose] public section

noncomputable section

namespace Cert.KernelProof

open Classical

/-- One stage at distance `d`: the lanes whose bit `d` is clear take the greater of themselves and the lane `d` on, the
    others the lesser of themselves and the lane `d` back. -/
def stage (d : ℕ) (f : ℕ → ℤ) : ℕ → ℤ := fun l => if l &&& d = 0 then max (f l) (f (l + d)) else min (f l) (f (l - d))

/-- The five stages. -/
def net (f : ℕ → ℤ) : ℕ → ℤ := stage 1 (stage 2 (stage 4 (stage 8 (stage 16 f))))

/-- Stage `d` of a mask, given the mask of the lanes whose bit `d` is clear and that of the others. -/
def maskStage (d lo hi m : ℕ) : ℕ := ((m ||| (m >>> d)) &&& lo) ||| ((m &&& (m <<< d)) &&& hi)

def maskNet (m : ℕ) : ℕ :=
  maskStage 1 0x55555555 0xAAAAAAAA (maskStage 2 0x33333333 0xCCCCCCCC (maskStage 4 0x0F0F0F0F 0xF0F0F0F0
    (maskStage 8 0x00FF00FF 0xFF00FF00 (maskStage 16 0x0000FFFF 0xFFFF0000 m))))

/-- The lanes below `a` and those from `32 - b` on. -/
def arc (a b : ℕ) : ℕ := (2 ^ a - 1) ||| ((2 ^ b - 1) <<< (32 - b))

/-- The network makes of every arc a prefix. -/
theorem maskNet_arc : ∀ a < 33, ∀ b < 33, maskNet (arc a b) = 2 ^ (min 32 (a + b)) - 1 := by
  decide +kernel

theorem arc_testBit (a b l : ℕ) (hb : b ≤ 32) (hl : l < 32) : (arc a b).testBit l = true ↔ (l < a ∨ 32 - b ≤ l) := by
  unfold arc
  rw [Nat.testBit_or, Nat.testBit_two_pow_sub_one, Nat.testBit_shiftLeft, Nat.testBit_two_pow_sub_one]
  simp only [Bool.or_eq_true, Bool.and_eq_true, decide_eq_true_eq, ge_iff_le]
  omega

/-- `m` marks the lanes of `f` in `U`. -/
def Marks (m : ℕ) (f : ℕ → ℤ) (U : ℤ → Prop) : Prop := ∀ l < 32, (m.testBit l = true ↔ U (f l))

theorem up_max {U : ℤ → Prop} (hU : IsUp U) (a b : ℤ) : U (max a b) ↔ (U a ∨ U b) := by
  rcases le_total a b with h | h
  · rw [max_eq_right h]
    exact ⟨Or.inr, fun h' => h'.elim (hU _ _ h) id⟩
  · rw [max_eq_left h]
    exact ⟨Or.inl, fun h' => h'.elim id (hU _ _ h)⟩

theorem up_min {U : ℤ → Prop} (hU : IsUp U) (a b : ℤ) : U (min a b) ↔ (U a ∧ U b) := by
  rcases le_total a b with h | h
  · rw [min_eq_left h]
    exact ⟨fun h' => ⟨h', hU _ _ h h'⟩, fun h' => h'.1⟩
  · rw [min_eq_right h]
    exact ⟨fun h' => ⟨hU _ _ h h', h'⟩, fun h' => h'.2⟩

theorem marks_stage (d lo hi m : ℕ) (f : ℕ → ℤ) (U : ℤ → Prop) (hU : IsUp U) (h : Marks m f U)
    (hd : ∀ l < 32, lo.testBit l = decide (l &&& d = 0) ∧ hi.testBit l = !decide (l &&& d = 0)
      ∧ (l &&& d = 0 → l + d < 32) ∧ (¬ l &&& d = 0 → d ≤ l)) :
    Marks (maskStage d lo hi m) (stage d f) U := by
  intro l hl
  obtain ⟨h1, h2, h3, h4⟩ := hd l hl
  unfold maskStage stage
  rw [Nat.testBit_or, Nat.testBit_and, Nat.testBit_or, Nat.testBit_and, Nat.testBit_and, Nat.testBit_shiftRight,
    Nat.testBit_shiftLeft, h1, h2]
  by_cases hc : l &&& d = 0
  · rw [if_pos hc, up_max hU, ← h l hl, ← h (l + d) (h3 hc), Nat.add_comm d l]
    simp [hc]
  · rw [if_neg hc, up_min hU, ← h l hl, ← h (l - d) (by omega)]
    simp [hc, h4 hc]

/-- The five stages on marks. -/
theorem marks_net (m : ℕ) (f : ℕ → ℤ) (U : ℤ → Prop) (hU : IsUp U) (h : Marks m f U) : Marks (maskNet m) (net f) U := by
  unfold maskNet net
  refine marks_stage _ _ _ _ _ U hU (marks_stage _ _ _ _ _ U hU (marks_stage _ _ _ _ _ U hU (marks_stage _ _ _ _ _ U hU
    (marks_stage _ _ _ _ _ U hU h ?_) ?_) ?_) ?_) ?_ <;> decide

/-- THE MERGE: with `A i` the `i`-th greatest of one half and `B i` that of the other, the network over
    `max (A l) (B (31 - l))` leaves in lane `l` the `l`-th greatest of both halves. -/
theorem isNth_net {n : ℕ} (f : Fin (n + n) → ℤ) (f₀ f₁ : Fin n → ℤ) (h₀ : ∀ j : Fin n, f (Fin.castAdd n j) = f₀ j)
    (h₁ : ∀ j : Fin n, f (Fin.natAdd n j) = f₁ j) (A B : ℕ → ℤ) (C : ℕ → ℤ)
    (hA : ∀ i < 32, IsNth f₀ i (A i)) (hB : ∀ i < 32, IsNth f₁ i (B i))
    (hC' : (∀ l < 32, C l = max (A l) (B (31 - l))) ∨ (∀ l < 32, C l = max (B l) (A (31 - l))))
    (l : ℕ) (hl : l < 32) : IsNth f l (net C l) := by
  intro U hU
  rw [card_posIn_halves f f₀ f₁ h₀ h₁ U]
  have key : ∀ (a b : ℕ), Marks (arc (min 32 a) (min 32 b)) C U → (U (net C l) ↔ l < a + b) := by
    intro a b h
    rw [← marks_net _ C U hU h l hl, maskNet_arc _ (by omega) _ (by omega), Nat.testBit_two_pow_sub_one]
    simp only [decide_eq_true_eq]
    omega
  rcases hC' with h | h
  · refine key _ _ fun i hi => ?_
    rw [arc_testBit _ _ _ (by omega) hi, h i hi, up_max hU, hA i hi U hU, hB (31 - i) (by omega) U hU]
    omega
  · rw [Nat.add_comm]
    refine key _ _ fun i hi => ?_
    rw [arc_testBit _ _ _ (by omega) hi, h i hi, up_max hU, hB i hi U hU, hA (31 - i) (by omega) U hU]
    omega

end Cert.KernelProof
-- ==== Proof.KeyBits.lean ====
/-
# The keys, on words

What rounding to bf16 leaves of a word (`rnd`), its sortable form (`sortable`) as an integer, that form against the total
order of the patterns, the column number added to it and taken off again.
-/
module

public import Idealize.ShloMosaic.Lib.ReducePrecisionBf16
public import Idealize.ShloMosaic.Lib.TotalOrder
public import Mathlib.Order.Monotone.Basic
public import Mathlib.Tactic.Linarith

@[expose] public section

noncomputable section

namespace Cert.KernelProof

open Idealize.ShloMosaic

/-- A word rounded to bf16 and widened again. -/
def rnd (w : Bits .f32) : BitVec 32 := Bits.extf16to32 (Bits.truncf32to16 w)

/-- Rounding a word that is no NaN to its top half: the half below is cleared, and the magnitude stays below the NaNs'. -/
theorem rounded_nat (x : ℕ) (hx : x < 4294967296) (h : x / 8388608 % 256 ≠ 255 ∨ x % 8388608 = 0) :
    (x + (32767 + x / 65536 % 2) % 4294967296) % 4294967296 / 65536 * 65536 % 65536 = 0
      ∧ (x + (32767 + x / 65536 % 2) % 4294967296) % 4294967296 / 65536 * 65536 % 2147483648 ≤ 2143289344 := by
  have hq : x / 65536 * 65536 + x % 65536 = x := by omega
  have hkey : x / 65536 % 32768 < 32640 ∨ (x / 65536 % 32768 ≤ 32640 ∧ x % 65536 = 0) := by
    rcases h with h | h
    · left
      have : x / 8388608 = x / 65536 / 128 := by omega
      omega
    · right
      omega
  have hql : x / 65536 < 65536 := by omega
  have hrl : x % 65536 < 65536 := Nat.mod_lt _ (by decide)
  have ht : x / 65536 % 2 < 2 := Nat.mod_lt _ (by decide)
  clear h
  generalize x / 65536 % 2 = t at ht ⊢
  generalize x / 65536 = q at hq hkey hql
  generalize x % 65536 = r at hq hkey hrl
  subst hq
  have hb : 32767 + t < 4294967296 := by omega
  have hq0 : q % 32768 < 32768 := Nat.mod_lt _ (by decide)
  have hqk : 32768 * (q / 32768) + q % 32768 = q := Nat.div_add_mod q 32768
  generalize q % 32768 = q0 at hq0 hqk hkey
  generalize q / 32768 = k at hqk
  have hk : k < 2 := by omega
  have hq' : q ≤ 65408 := by omega
  have hs : q * 65536 + r + (32767 + t) < 4294967296 := by
    clear hkey hqk hx hq0
    linarith
  rw [Nat.mod_eq_of_lt hb, Nat.mod_eq_of_lt hs]
  have hd : (q * 65536 + r + (32767 + t)) / 65536 = q + (r + (32767 + t)) / 65536 := by omega
  rw [hd]
  have h01 : (r + (32767 + t)) / 65536 ≤ 1 ∧ (r = 0 → (r + (32767 + t)) / 65536 = 0) := by omega
  generalize (r + (32767 + t)) / 65536 = z at h01
  refine ⟨Nat.mul_mod_left _ _, ?_⟩
  have hz : q0 + z ≤ 32640 := by omega
  have e : (q + z) * 65536 = (q0 + z) * 65536 + 2147483648 * k := by omega
  have hm : (q0 + z) * 65536 < 2147483648 := by
    clear hkey hqk hx hq0 h01
    linarith
  rw [e, Nat.add_mul_mod_self_left, Nat.mod_eq_of_lt hm]
  omega

/-- The word's low half is clear, and its magnitude is at most that of the one NaN it can be. -/
theorem rnd_shape (w : Bits .f32) : (rnd w).toNat % 65536 = 0 ∧ (rnd w).toNat % 2147483648 ≤ 2143289344 := by
  have e : rnd w = reducePrecision32 8 7 w := (Bits.reducePrecision32_eq_extf16to32_truncf32to16 w).symm
  rw [e]
  have hw : BitVec.toNat (w : BitVec 32) < 4294967296 := BitVec.isLt (w : BitVec 32)
  generalize hv : (w : BitVec 32) = v at hw ⊢
  have hE : (v.extractLsb' 23 8).toNat = v.toNat / 8388608 % 256 := by
    rw [BitVec.extractLsb'_toNat, Nat.shiftRight_eq_div_pow]
  have hF : (v.extractLsb' 0 23).toNat = v.toNat % 8388608 := by
    rw [BitVec.extractLsb'_toNat, Nat.shiftRight_zero]
  have high : ∀ x < 4294967296, x &&& 4294901760 = x / 65536 * 65536 := by
    intro x hx
    have hd : (x &&& 4294901760) / 2 ^ 16 = x / 2 ^ 16 &&& 65535 := by rw [Nat.and_div_two_pow]
    have hm : (x &&& 4294901760) % 2 ^ 16 = 0 := by
      rw [Nat.and_mod_two_pow, show 4294901760 % 2 ^ 16 = 0 from rfl, Nat.and_zero]
    have he : x / 2 ^ 16 &&& 65535 = x / 2 ^ 16 % 2 ^ 16 := Nat.and_two_pow_sub_one_eq_mod _ 16
    rw [he] at hd
    generalize x &&& 4294901760 = y at hd hm ⊢
    omega
  have field : (v.toNat / 8388608 % 256 ≠ 255 ∨ v.toNat % 8388608 = 0) →
      ((v + (32767#32 + (v >>> 16 &&& 1#32))) &&& 4294901760#32).toNat % 65536 = 0
        ∧ ((v + (32767#32 + (v >>> 16 &&& 1#32))) &&& 4294901760#32).toNat % 2147483648 ≤ 2143289344 := by
    intro h
    rw [BitVec.toNat_and, BitVec.toNat_add, BitVec.toNat_add, BitVec.toNat_and, BitVec.toNat_ushiftRight,
      Nat.shiftRight_eq_div_pow]
    show (((v.toNat + (32767 + (v.toNat / 2 ^ 16 &&& 1)) % 4294967296) % 4294967296) &&& 4294901760) % 65536 = 0
      ∧ (((v.toNat + (32767 + (v.toNat / 2 ^ 16 &&& 1)) % 4294967296) % 4294967296) &&& 4294901760) % 2147483648 ≤ 2143289344
    rw [Nat.and_one_is_mod, high _ (Nat.mod_lt _ (by decide))]
    exact rounded_nat v.toNat hw h
  by_cases he : v.toNat / 8388608 % 256 = 255
  · by_cases hf : v.toNat % 8388608 = 0
    · have : reducePrecision32 8 7 v = (v + (32767#32 + (v >>> 16 &&& 1#32))) &&& 4294901760#32 := by
        have : v.extractLsb' 0 23 = 0#23 := BitVec.eq_of_toNat_eq (by rw [hF, hf]; rfl)
        simp [reducePrecision32, this]
      rw [this]
      exact field (Or.inr hf)
    · have : reducePrecision32 8 7 v = 0x7FC00000#32 := by
        have h1 : v.extractLsb' 23 8 = 255#8 := BitVec.eq_of_toNat_eq (by rw [hE, he]; rfl)
        have h2 : v.extractLsb' 0 23 ≠ 0#23 := fun h => hf (by rw [← hF, h]; rfl)
        simp [reducePrecision32, h1, h2]
      rw [this]
      decide
  · have h1 : v.extractLsb' 23 8 ≠ 255#8 := fun h => he (by rw [← hE, h]; rfl)
    by_cases h2 : v.extractLsb' 23 8 = 0#8
    · by_cases h3 : v.extractLsb' 0 23 = 0#23
      · have : reducePrecision32 8 7 v = (v + (32767#32 + (v >>> 16 &&& 1#32))) &&& 4294901760#32 := by
          simp [reducePrecision32, h3]
        rw [this]
        exact field (Or.inl he)
      · have : reducePrecision32 8 7 v = v &&& 0x80000000#32 := by
          simp [reducePrecision32, h2, h3]
        rw [this, BitVec.toNat_and]
        have hs : v.toNat &&& 2147483648 = v.toNat / 2147483648 * 2147483648 := by
          have hd : (v.toNat &&& 2147483648) / 2 ^ 31 = v.toNat / 2 ^ 31 &&& 1 := by rw [Nat.and_div_two_pow]
          have hm : (v.toNat &&& 2147483648) % 2 ^ 31 = 0 := by
            rw [Nat.and_mod_two_pow, show 2147483648 % 2 ^ 31 = 0 from rfl, Nat.and_zero]
          rw [Nat.and_one_is_mod] at hd
          generalize v.toNat &&& 2147483648 = y at hd hm ⊢
          omega
        show (v.toNat &&& 2147483648) % 65536 = 0 ∧ (v.toNat &&& 2147483648) % 2147483648 ≤ 2143289344
        rw [hs]
        omega
    · have : reducePrecision32 8 7 v = (v + (32767#32 + (v >>> 16 &&& 1#32))) &&& 4294901760#32 := by
        simp [reducePrecision32, h1, h2]
      rw [this]
      exact field (Or.inl he)

/-- The sortable form of a word: itself if its sign is clear, else `0x80000000` less it. Its own inverse but for `-0`. -/
def sortable (v : BitVec 32) : BitVec 32 :=
  Scalar.select (IntOp.cmpi .sge v 0#32) v (IntOp.subi 2147483648#32 v)

theorem sortable_eq (v : BitVec 32) : sortable v = if v.toNat < 2147483648 then v else 2147483648#32 - v := by
  have h : BitVec.sle 0#32 v = decide (v.toNat < 2147483648) := by
    unfold BitVec.sle
    rw [decide_eq_decide, BitVec.toInt_eq_toNat_cond v]
    have hv := v.isLt
    have h0 : (0#32 : BitVec 32).toInt = 0 := by decide
    rw [h0]
    split <;> omega
  have e : IntOp.cmpi .sge v 0#32 = BitVec.ofBool (BitVec.sle 0#32 v) := rfl
  unfold sortable Scalar.select IntOp.subi
  rw [e, h]
  by_cases hc : v.toNat < 2147483648 <;> simp [hc]

/-- The sortable form as an integer. -/
def sInt (v : BitVec 32) : ℤ := if v.toNat < 2147483648 then (v.toNat : ℤ) else 2147483648 - v.toNat

theorem sortable_toInt (v : BitVec 32) : (sortable v).toInt = sInt v := by
  rw [sortable_eq, sInt]
  have hv := v.isLt
  split
  · rw [BitVec.toInt_eq_toNat_cond]
    omega
  · rw [BitVec.toInt_eq_toNat_cond, BitVec.toNat_sub]
    have : (2147483648#32 : BitVec 32).toNat = 2147483648 := rfl
    rw [this]
    split <;> omega

/-- Twice sortable: the word again, with `-0` made `+0`. -/
theorem sortable_sortable (v : BitVec 32) : sortable (sortable v) = if v = 2147483648#32 then 0#32 else v := by
  apply BitVec.eq_of_toInt_eq
  have h1 := sortable_toInt v
  rw [sortable_toInt, sInt]
  rw [BitVec.toInt_eq_toNat_cond, sInt] at h1
  have hv := v.isLt
  have hs := (sortable v).isLt
  generalize (sortable v).toNat = s at h1 hs ⊢
  by_cases hm : v = 2147483648#32
  · subst hm
    rw [if_pos rfl]
    have : (2147483648#32 : BitVec 32).toNat = 2147483648 := rfl
    rw [this] at h1
    have h0 : (0#32 : BitVec 32).toInt = 0 := by decide
    rw [h0]
    split <;> split at h1 <;> omega
  · rw [if_neg hm, BitVec.toInt_eq_toNat_cond]
    have : v.toNat ≠ 2147483648 := fun h => hm (BitVec.eq_of_toNat_eq h)
    split <;> split at h1 <;> split at h1 <;> split <;> omega

/-- The total order's key, as a natural, to the sortable integer. -/
def keyToInt (k : ℤ) : ℤ := if k < 2147483648 then k - 2147483647 else k - 2147483648

theorem keyToInt_mono : Monotone keyToInt := by
  intro a b h
  unfold keyToInt
  split <;> split <;> omega

theorem keyToInt_key (v : BitVec 32) : keyToInt ((totalOrderKey v).toNat : ℤ) = sInt v := by
  have h : (totalOrderKey v).toNat = if v.msb then 4294967295 - v.toNat else v.toNat + 2147483648 :=
    TotalOrder.toNat_totalOrderKey (e := 8) (m := 23) v
  have hm : v.msb = decide (2147483648 ≤ v.toNat) := by rw [BitVec.msb_eq_decide]
  have hv := v.isLt
  rw [h, hm, keyToInt, sInt]
  by_cases hc : 2147483648 ≤ v.toNat
  · simp only [hc, decide_true, if_true]
    rw [if_pos (by omega)]
    split <;> omega
  · simp only [hc, decide_false, Bool.false_eq_true, if_false]
    rw [if_neg (by omega)]
    split <;> omega

theorem sInt_rnd (w : Bits .f32) : sInt (rnd w) % 65536 = 0 ∧ -2143289344 ≤ sInt (rnd w) ∧ sInt (rnd w) ≤ 2143289344 := by
  obtain ⟨h1, h2⟩ := rnd_shape w
  have hv := (rnd w).isLt
  unfold sInt
  generalize (rnd w).toNat = v at *
  split <;> omega

/-- A key: the sortable form, the column and the half's offset added. -/
theorem key_toInt (w : Bits .f32) (j : ℕ) (hj : j < 8192) (p : BitVec 32) (hp : p.toNat < 2) :
    (IntOp.addi (IntOp.addi (sortable (rnd w)) (BitVec.ofNat 32 j)) (Scalar.muli p 8192#32)).toInt
      = sInt (rnd w) + (j + 8192 * p.toNat : ℕ) := by
  obtain ⟨_, h2, h3⟩ := sInt_rnd w
  have hs := sortable_toInt (rnd w)
  generalize sInt (rnd w) = s at *
  have e : IntOp.addi (IntOp.addi (sortable (rnd w)) (BitVec.ofNat 32 j)) (Scalar.muli p 8192#32)
      = sortable (rnd w) + BitVec.ofNat 32 j + p * 8192#32 := rfl
  rw [e, BitVec.toInt_eq_toNat_cond, BitVec.toNat_add, BitVec.toNat_add, BitVec.toNat_mul, BitVec.toNat_ofNat]
  rw [BitVec.toInt_eq_toNat_cond] at hs
  have hb := (sortable (rnd w)).isLt
  generalize (sortable (rnd w)).toNat = t at *
  have : (8192#32 : BitVec 32).toNat = 8192 := rfl
  rw [this]
  split at hs <;> split <;> omega

/-- Clearing the low half of a word floors its integer to a multiple of `65536`. -/
theorem toInt_clear (x : BitVec 32) : (IntOp.andi x 4294901760#32).toInt = x.toInt / 65536 * 65536 := by
  have hx := x.isLt
  have e : (IntOp.andi x 4294901760#32).toNat = x.toNat / 65536 * 65536 := by
    show (x &&& 4294901760#32).toNat = _
    rw [BitVec.toNat_and]
    show x.toNat &&& 4294901760 = _
    have hd : (x.toNat &&& 4294901760) / 2 ^ 16 = x.toNat / 2 ^ 16 &&& 65535 := by rw [Nat.and_div_two_pow]
    have hm : (x.toNat &&& 4294901760) % 2 ^ 16 = 0 := by
      rw [Nat.and_mod_two_pow, show 4294901760 % 2 ^ 16 = 0 from rfl, Nat.and_zero]
    have he : x.toNat / 2 ^ 16 &&& 65535 = x.toNat / 2 ^ 16 % 2 ^ 16 := Nat.and_two_pow_sub_one_eq_mod _ 16
    rw [he] at hd
    generalize x.toNat &&& 4294901760 = y at hd hm ⊢
    omega
  rw [BitVec.toInt_eq_toNat_cond, BitVec.toInt_eq_toNat_cond, e]
  split <;> split <;> omega

theorem floor_mono : Monotone fun t : ℤ => t / 65536 * 65536 := by
  intro a b h
  show a / 65536 * 65536 ≤ b / 65536 * 65536
  omega

end Cert.KernelProof
-- ==== Proof.MergeRows.lean ====
/-
# The merge of two rows of candidates, lane by lane

The kernel's five stages (`k0_pay131` to `k0_pay137`) read at a row: the network of `Network.lean` on the row's lanes, the
low halves cleared, and the sortable form undone.
-/
module

public import proofs.«01_k».proof.Proof.Contents
public import proofs.«01_k».proof.Proof.Network
public import proofs.«01_k».proof.Proof.KeyBits
public import Idealize.ShloMosaic.Lib.Pointwise
public import Idealize.ShloMosaic.Lib.SortNet.Extract

@[expose] public section

noncomputable section

namespace Cert.KernelProof

open Cert.Kernel Cert.Kernel.Gen
open Idealize.ShloMosaic
open Idealize.ShloMosaic.TcCoe

/-- A row's lanes, as integers; past the last lane, 0. -/
def lanes (v : IVec S256x32 32) (r : Fin 256) : ℕ → ℤ := fun l => if h : l < 32 then (v (ix2 r ⟨l, h⟩)).toInt else 0

theorem lanes_at (v : IVec S256x32 32) (r : Fin 256) (l : Fin 32) : lanes v r l.val = (v (ix2 r l)).toInt := dif_pos l.isLt

/-- A stage as the kernel writes it. -/
def stageV (up dn bit : BitVec 32) (v : IVec S256x32 32) : IVec S256x32 32 :=
  select (cmpi .eq (andi (iota .tc S256x32 32 [1] iota_S256x32_d1_w32) (broadcast S256x32 bit)) (broadcast S256x32 0#32))
    (maxsi v (dynamicRotate 1 up none v rotates_S256x32_d1)) (minsi v (dynamicRotate 1 dn none v rotates_S256x32_d1))

theorem stageV_apply (up dn bit : BitVec 32) (v : IVec S256x32 32) (r : Fin 256) (l : Fin 32) :
    stageV up dn bit v (ix2 r l) =
      Scalar.select (IntOp.cmpi .eq (IntOp.andi (BitVec.ofNat 32 l.val) bit) 0#32)
        (IntOp.maxsi (v (ix2 r l)) (v (ix2 r ⟨(l.val + 32 - up.toNat % 32) % 32, Nat.mod_lt _ (by decide)⟩)))
        (IntOp.minsi (v (ix2 r l)) (v (ix2 r ⟨(l.val + 32 - dn.toNat % 32) % 32, Nat.mod_lt _ (by decide)⟩))) := by
  unfold stageV
  simp only [pointwise]
  show Scalar.select (IntOp.cmpi .eq (IntOp.andi (BitVec.ofNat 32 (0 * 32 + l.val)) bit) 0#32) _ _ = _
  rw [Nat.zero_mul, Nat.zero_add]
  rfl

/-- The kernel's stage is the network's, on the lanes of a row. -/
theorem lanes_stageV (d : ℕ) (up dn bit : BitVec 32) (v : IVec S256x32 32) (r : Fin 256)
    (h : ∀ l < 32, IntOp.cmpi .eq (IntOp.andi (BitVec.ofNat 32 l) bit) 0#32 = BitVec.ofBool (decide (l &&& d = 0))
      ∧ (l &&& d = 0 → l + d < 32 ∧ (l + 32 - up.toNat % 32) % 32 = l + d)
      ∧ (¬ l &&& d = 0 → d ≤ l ∧ (l + 32 - dn.toNat % 32) % 32 = l - d)) :
    ∀ l < 32, lanes (stageV up dn bit v) r l = stage d (lanes v r) l := by
  intro l hl
  obtain ⟨h1, h2, h3⟩ := h l hl
  have e : lanes (stageV up dn bit v) r l = (stageV up dn bit v (ix2 r ⟨l, hl⟩)).toInt := dif_pos hl
  have e0 : lanes v r l = (v (ix2 r ⟨l, hl⟩)).toInt := dif_pos hl
  rw [e, stageV_apply, stage]
  unfold Scalar.select
  rw [h1]
  by_cases hc : l &&& d = 0
  · obtain ⟨h4, h5⟩ := h2 hc
    have e1 : lanes v r (l + d) = (v (ix2 r ⟨l + d, h4⟩)).toInt := dif_pos h4
    rw [if_pos hc, if_pos (by rw [decide_eq_true hc]; rfl), SortNet.toInt_maxsi, e0, e1]
    exact congrArg (fun q : Fin 32 => max (v (ix2 r ⟨l, hl⟩)).toInt (v (ix2 r q)).toInt) (Fin.ext h5)
  · obtain ⟨h4, h5⟩ := h3 hc
    have e1 : lanes v r (l - d) = (v (ix2 r ⟨l - d, by omega⟩)).toInt := dif_pos (by omega)
    rw [if_neg hc, if_neg (by rw [decide_eq_false hc]; decide), SortNet.toInt_minsi, e0, e1]
    exact congrArg (fun q : Fin 32 => min (v (ix2 r ⟨l, hl⟩)).toInt (v (ix2 r q)).toInt) (Fin.ext h5)

/-- A stage reads lanes below 32 only. -/
theorem stage_congr (d : ℕ) (f g : ℕ → ℤ) (hd : ∀ l < 32, (l &&& d = 0 → l + d < 32)) (h : ∀ l < 32, f l = g l) :
    ∀ l < 32, stage d f l = stage d g l := by
  intro l hl
  unfold stage
  by_cases hc : l &&& d = 0
  · rw [if_pos hc, if_pos hc, h l hl, h (l + d) (hd l hl hc)]
  · rw [if_neg hc, if_neg hc, h l hl, h (l - d) (by omega)]

/-- The five stages of the kernel, on the lanes of a row. -/
theorem lanes_net (v : IVec S256x32 32) (r : Fin 256) (l : ℕ) (hl : l < 32) :
    lanes (stageV 31#32 1#32 1#32 (stageV 30#32 2#32 2#32 (stageV 28#32 4#32 4#32 (stageV 24#32 8#32 8#32
      (stageV 16#32 16#32 16#32 v))))) r l = net (lanes v r) l := by
  unfold net
  have a1 := lanes_stageV 16 16#32 16#32 16#32 v r (by decide)
  have a2 := lanes_stageV 8 24#32 8#32 8#32 (stageV 16#32 16#32 16#32 v) r (by decide)
  have a3 := lanes_stageV 4 28#32 4#32 4#32 (stageV 24#32 8#32 8#32 (stageV 16#32 16#32 16#32 v)) r (by decide)
  have a4 := lanes_stageV 2 30#32 2#32 2#32 (stageV 28#32 4#32 4#32 (stageV 24#32 8#32 8#32 (stageV 16#32 16#32 16#32 v))) r
    (by decide)
  have a5 := lanes_stageV 1 31#32 1#32 1#32 (stageV 30#32 2#32 2#32 (stageV 28#32 4#32 4#32 (stageV 24#32 8#32 8#32
    (stageV 16#32 16#32 16#32 v)))) r (by decide)
  have b2 := fun l hl => (a2 l hl).trans (stage_congr 8 _ _ (by decide) a1 l hl)
  have b3 := fun l hl => (a3 l hl).trans (stage_congr 4 _ _ (by decide) b2 l hl)
  have b4 := fun l hl => (a4 l hl).trans (stage_congr 2 _ _ (by decide) b3 l hl)
  exact (a5 l hl).trans (stage_congr 1 _ _ (by decide) b4 l hl)

/-- The merge as the kernel writes it is the five stages, the low halves cleared. -/
theorem merged_eq (a b : IVec S1x256x32 32) :
    k0_pay135 (k0_pay131 (F := Bits) a b) (iota .tc S256x32 32 [1] iota_S256x32_d1_w32) (k0_pay132 (F := Bits) a b)
      k0_pay133 (k0_pay134 (F := Bits) a b) =
    andi (stageV 31#32 1#32 1#32 (stageV 30#32 2#32 2#32 (stageV 28#32 4#32 4#32 (stageV 24#32 8#32 8#32
      (stageV 16#32 16#32 16#32 (k0_pay131 (F := Bits) a b)))))) (broadcast S256x32 4294901760#32) := rfl

/-- The operand of the stages: the greater of the two candidates of a lane. -/
theorem pay131_apply (a b : IVec S1x256x32 32) (r : Fin 256) (l : Fin 32) :
    k0_pay131 (F := Bits) a b (ix2 r l) = IntOp.maxsi (a (ix3 0 r l)) (b (ix3 0 r l)) := by
  unfold k0_pay131
  simp only [pointwise]

/-- The result's word: the sortable form of the cleared word. -/
theorem pay137_apply (x : IVec S256x32 32) (r : Fin 256) (l : Fin 32) (a b : IVec S1x256x32 32)
    (hx : x = k0_pay135 (k0_pay131 (F := Bits) a b) (iota .tc S256x32 32 [1] iota_S256x32_d1_w32) (k0_pay132 (F := Bits) a b)
      k0_pay133 (k0_pay134 (F := Bits) a b)) :
    k0_pay137 (F := Bits) x (k0_pay136 (k0_pay131 (F := Bits) a b) (iota .tc S256x32 32 [1] iota_S256x32_d1_w32)
      (k0_pay132 (F := Bits) a b) k0_pay133 (k0_pay134 (F := Bits) a b)) (ix2 r l) = sortable (x (ix2 r l)) := by
  unfold k0_pay137 k0_pay136
  rw [← hx]
  rfl

/-- LANE `l` OF THE MERGED ROW: the sortable form of a word whose integer is the network's lane `l`, floored to its high
    half. -/
theorem merge_lane (a b : IVec S1x256x32 32) (r : Fin 256) (l : Fin 32) :
    ∃ y : BitVec 32, y.toInt = net (lanes (k0_pay131 (F := Bits) a b) r) l.val / 65536 * 65536 ∧
      k0_pay137 (F := Bits) (k0_pay135 (k0_pay131 (F := Bits) a b) (iota .tc S256x32 32 [1] iota_S256x32_d1_w32)
        (k0_pay132 (F := Bits) a b) k0_pay133 (k0_pay134 (F := Bits) a b))
        (k0_pay136 (k0_pay131 (F := Bits) a b) (iota .tc S256x32 32 [1] iota_S256x32_d1_w32)
      (k0_pay132 (F := Bits) a b) k0_pay133 (k0_pay134 (F := Bits) a b)) (ix2 r l) = sortable y := by
  refine ⟨_, ?_, pay137_apply _ r l a b rfl⟩
  rw [merged_eq]
  refine (toInt_clear _).trans ?_
  rw [← lanes_net _ r l.val l.isLt]
  rw [lanes_at]

end Cert.KernelProof
-- ==== Proof.RefTop.lean ====
/-
# What the reference computes, entry by entry

The reference's top-k is a stable sort of each row by the total order of the patterns, cut to 32: entry `l` of a row is the
`l`-th greatest of the row's rounded words.
-/
module

public import proofs.«01_k».proof.Proof.Gen.Reference.Run
public import proofs.«01_k».proof.Proof.Nth
public import proofs.«01_k».proof.Proof.KeyBits
public import Idealize.ShloMosaic.Lib.Pointwise
public import Idealize.ShloMosaic.Lib.SortFacts

@[expose] public section

noncomputable section

namespace Cert.KernelProof

open Cert.Reference Cert.Reference.Gen
open Idealize.ShloMosaic

/-- The total order's key of a pattern, as an integer. -/
def keyZ (v : Bits .f32) : ℤ := ((totalOrderKey (v : BitVec 32)).toNat : ℤ)

theorem cmpfTotal_gt (a b : Bits .f32) : (FloatOps.cmpfTotal (F := Bits) .gt a b == 1#1) = decide (keyZ b < keyZ a) := by
  have e : FloatOps.cmpfTotal (F := Bits) .gt a b
      = BitVec.ofBool (BitVec.ult (totalOrderKey (b : BitVec 32)) (totalOrderKey (a : BitVec 32))) := rfl
  have h : BitVec.ult (totalOrderKey (b : BitVec 32)) (totalOrderKey (a : BitVec 32)) = decide (keyZ b < keyZ a) := by
    unfold BitVec.ult keyZ
    rw [decide_eq_decide]
    omega
  rw [e, h]
  by_cases hc : keyZ b < keyZ a <;> simp [hc]

/-- Entry `l` of a row of the top-k is the `l`-th greatest of the row, by the total order. -/
theorem isNth_topK (x : FVec Bits S1024x16384 .f32) (r : Fin 1024) (l : Fin 32) :
    IsNth (fun j : Fin 16384 => keyZ (x (ix2 r j))) l.val
      (keyZ ((Host.topK S1024x32 1 (FloatOps.cmpfTotal (F := Bits) .gt) x sliceFits_S1024x16384_S1024x32).1 (ix2 r l))) := by
  have hl : l.val < 16384 := lt_trans l.isLt (by decide)
  have hal : ∀ (j k : Fin 16384), (ix2 r j : S1024x16384.Idx).along (1 : Fin 2) k = ix2 r k := by
    intro j k
    rw [eq_ix2 (n0 := 1024) (n1 := 16384) ((ix2 r j : S1024x16384.Idx).along (1 : Fin 2) k)]
    rfl
  have hB : (fun k k' : Fin 16384 => FloatOps.cmpfTotal (F := Bits) .gt (x (ix2 r k)) (x (ix2 r k')) == 1#1)
      = fun k k' => decide (keyZ (x (ix2 r k')) < keyZ (x (ix2 r k))) := by
    funext k k'
    exact cmpfTotal_gt _ _
  have e : (Host.topK S1024x32 1 (FloatOps.cmpfTotal (F := Bits) .gt) x sliceFits_S1024x16384_S1024x32).1 (ix2 r l)
      = x (ix2 r (sortedFrom (fun k k' : Fin 16384 => decide (keyZ (x (ix2 r k')) < keyZ (x (ix2 r k)))) ⟨l.val, hl⟩)) := by
    rw [← hB]
    unfold Host.topK Host.sort2
    simp only [pointwise]
    rw [dif_pos (by decide : 1 < 2)]
    have e0 : ∀ h, (⟨0 + r.val, h⟩ : Fin 1024) = r := fun h => Fin.ext (Nat.zero_add _)
    have e1 : ∀ h, (⟨0 + l.val, h⟩ : Fin 16384) = ⟨l.val, hl⟩ := fun h => Fin.ext (Nat.zero_add _)
    rw [e0, e1]
    show x ((ix2 r ⟨l.val, hl⟩ : S1024x16384.Idx).along (1 : Fin 2)
      (sortedFrom (fun k k' : Fin 16384 => FloatOps.cmpfTotal (F := Bits) .gt
        (x ((ix2 r ⟨l.val, hl⟩ : S1024x16384.Idx).along (1 : Fin 2) k))
        (x ((ix2 r ⟨l.val, hl⟩ : S1024x16384.Idx).along (1 : Fin 2) k')) == 1#1) ⟨l.val, hl⟩)) = _
    simp only [hal]
    exact congrArg x (hal _ _)
  rw [e]
  refine isNth_of_antitone (fun j : Fin 16384 => keyZ (x (ix2 r j))) _
    ⟨sortedFrom_injective _, sortedFrom_surjective _⟩ (fun i j hij => ?_) ⟨l.val, hl⟩
  have := sortedFrom_noInversion (fun k k' : Fin 16384 => decide (keyZ (x (ix2 r k')) < keyZ (x (ix2 r k)))) _
    (fun a b h => decide_eq_false (not_lt.mpr (le_of_lt (of_decide_eq_true h)))) (fun _ _ h => h)
    (fun a b c h h' => decide_eq_false (not_lt.mpr (le_trans (not_lt.mp (of_decide_eq_false h)) (not_lt.mp (of_decide_eq_false h')))))
    i j hij
  exact not_lt.mp (of_decide_eq_false this)

/-- The reference's result of an array. -/
def refOut (x : FVec Bits S1024x16384 .f32) : FVec Bits S1024x32 .f32 :=
  bitcastToFloat (F := Bits) .f32 (select (cmpi .eq (bitcastToInt ((Host.topK S1024x32 1 (FloatOps.cmpfTotal .gt) (extf .f32 (truncf .bf16 x bitsLt_bf16_f32) bitsLt_bf16_f32) sliceFits_S1024x16384_S1024x32).1)) (broadcastInDim S1024x32 ![] bcast_S_S1024x32 (constantI S_ 32 2147483648#32))) (broadcastInDim S1024x32 ![] bcast_S_S1024x32 (id (constantI S_ 32 0#32))) (bitcastToInt ((Host.topK S1024x32 1 (FloatOps.cmpfTotal .gt) (extf .f32 (truncf .bf16 x bitsLt_bf16_f32) bitsLt_bf16_f32) sliceFits_S1024x16384_S1024x32).1)))

/-- ENTRY `(r, l)` OF THE REFERENCE: twice the sortable form of the `l`-th greatest of the row's rounded words. -/
theorem ref_lane (x : FVec Bits S1024x16384 .f32) (r : Fin 1024) (l : Fin 32) :
    ∃ v : BitVec 32, refOut x (ix2 r l) = sortable (sortable v) ∧
      IsNth (fun j : Fin 16384 => sInt (rnd (x (ix2 r j)))) l.val (sInt v) := by
  refine ⟨(Host.topK S1024x32 1 (FloatOps.cmpfTotal (F := Bits) .gt) (extf .f32 (truncf .bf16 x bitsLt_bf16_f32) bitsLt_bf16_f32)
    sliceFits_S1024x16384_S1024x32).1 (ix2 r l), ?_, ?_⟩
  · unfold refOut
    generalize (Host.topK S1024x32 1 (FloatOps.cmpfTotal (F := Bits) .gt) (extf .f32 (truncf .bf16 x bitsLt_bf16_f32) bitsLt_bf16_f32)
      sliceFits_S1024x16384_S1024x32).1 = t
    rw [sortable_sortable]
    show Scalar.select (BitVec.ofBool ((t (ix2 r l) : BitVec 32) == 2147483648#32)) 0#32 (t (ix2 r l) : BitVec 32) = _
    unfold Scalar.select
    by_cases h : (t (ix2 r l) : BitVec 32) = 2147483648#32
    · rw [if_pos h, if_pos (by rw [h]; rfl)]
    · rw [if_neg h, if_neg (by rw [beq_false_of_ne h]; decide)]
  · have h := (isNth_topK (extf .f32 (truncf .bf16 x bitsLt_bf16_f32) bitsLt_bf16_f32) r l).map keyToInt keyToInt_mono
    have e : ∀ v : BitVec 32, keyToInt (keyZ v) = sInt v := keyToInt_key
    simp only [e] at h
    exact h

end Cert.KernelProof
-- ==== Proof.Value.lean ====
/-
# The kernel's result is the reference's

The rows a device loads are rows of the whole array; its keys order the row's rounded words with the column as the tie
break; the merge of two devices across y is the row's whole top 32; with the column bits cleared each is the reference's
word.
-/
module

public import proofs.«01_k».proof.Proof.Contents
public import proofs.«01_k».proof.Proof.Extract
public import proofs.«01_k».proof.Proof.MergeRows
public import proofs.«01_k».proof.Proof.RefTop
public import Idealize.ShloMosaic.Lib.Layout

@[expose] public section

noncomputable section

namespace Cert.KernelProof

open Cert.Kernel Cert.Kernel.Gen
open Idealize.ShloMosaic
open Idealize.ShloMosaic.TcCoe

variable (m : (ℓ : Loc nD τ sig) → Buf (Elt Bits) ℓ) (X : (⟨2, ![1024, 16384]⟩ : Shape).Idx → Bits .f32)

/-- The devices' arguments are the blocks of `X`. -/
def Blocks : Prop := ∀ c : Dev nD, m ((c : Thread nD τ).loc main_arg0)
  = Layout.blockN ⟨2, ![1024, 8192]⟩ ⟨2, ![1024, 16384]⟩ (Layout.meshBlock [2, 2, 2] ![[], [1]] c) X

/-- The place along y. -/
def yOf (e : Dev nD) : ℕ := e.val / 2 % 2

theorem yOf_lt (e : Dev nD) : yOf e < 2 := Nat.mod_lt _ (by decide)

theorem myWord_toNat (e : Dev nD) : (myWord e).toNat = yOf e := by revert e; decide
theorem meshLin_y (e : Dev nD) : Layout.meshLin [2, 2, 2] e.val [1] = yOf e := by revert e; decide
theorem off1_row (e : Dev nD) : 512 * (e.val / 4) + 256 * (e.val % 2) = 256 * blockOf e := by unfold blockOf; omega

/-- The row's local number. -/
def locRow (r : Fin 1024) : Fin 256 := ⟨r.val % 256, Nat.mod_lt _ (by decide)⟩
/-- A device's column in the whole array. -/
def gcol (e : Dev nD) (j : Fin 8192) : Fin 16384 := ⟨j.val + 8192 * yOf e, by have := yOf_lt e; omega⟩

variable {m X}

theorem rowsIn_apply (hX : Blocks m X) (e : Dev nD) (r : Fin 1024) (hr : r.val / 256 = blockOf e) (j : Fin 8192) :
    rowsIn m e (ix2 (locRow r) j) = X (ix2 r (gcol e j)) := by
  have h1 : rowsIn m e (ix2 (locRow r) j) = m ((e : Thread nD τ).loc main_arg0) (ix2 r j) := by
    refine congrArg (m ((e : Thread nD τ).loc main_arg0)) (?_ : (Rect.unit (s := S1024x8192) (k0_off1 e) S256x8192.size (k0_off1_inb e)).emb (ix2 (locRow r) j) = ix2 r j)
    funext a
    refine Fin.ext ?_
    show (k0_off1 e) a + 1 * ((ix2 (locRow r) j : S256x8192.Idx) a).val = ((ix2 r j : S1024x8192.Idx) a).val
    rw [k0_off1_eq e]
    match a with
    | ⟨0, _⟩ =>
      show 512 * (e.val / 4) + 256 * (e.val % 2) + 1 * (r.val % 256) = r.val
      rw [off1_row, ← hr]
      omega
    | ⟨1, _⟩ => exact (Nat.zero_add _).trans (Nat.one_mul _)
  rw [h1, hX e, Layout.blockN_apply]
  refine congrArg X ?_
  funext b
  refine Fin.ext ?_
  rw [Layout.TilesN.idx_val, Layout.meshBlock_val]
  match b with
  | ⟨0, _⟩ => exact (congrArg (· + r.val) (Nat.zero_mul _)).trans (Nat.zero_add _)
  | ⟨1, _⟩ =>
    show Layout.meshLin [2, 2, 2] e.val [1] * 8192 + j.val = j.val + 8192 * yOf e
    rw [meshLin_y]
    omega

theorem pay1_apply (p : BitVec 32) (x : Vec Bits S256x8192 .f32) (i : Fin 256) (j : Fin 8192) :
    k0_pay1 (F := Bits) p x (ix2 i j)
      = IntOp.addi (IntOp.addi (sortable (rnd (x (ix2 i j)))) (BitVec.ofNat 32 j.val)) (Scalar.muli p 8192#32) := by
  have hj : BitVec.ofNat 32 (0 * 8192 + j.val) = BitVec.ofNat 32 j.val := by rw [Nat.zero_mul, Nat.zero_add]
  rw [← hj]
  unfold k0_pay1
  simp only [pointwise]
  rfl

/-- A key as an integer: the rounded word, its column added. -/
theorem key0_toInt (hX : Blocks m X) (e : Dev nD) (r : Fin 1024) (hr : r.val / 256 = blockOf e) (j : Fin 8192) :
    (key0 m e (ix2 (locRow r) j)).toInt = sInt (rnd (X (ix2 r (gcol e j)))) + ((gcol e j).val : ℤ) := by
  unfold key0
  rw [pay1_apply, rowsIn_apply hX e r hr, key_toInt _ j.val j.isLt _ (by rw [myWord_toNat]; exact yOf_lt e), myWord_toNat]
  rfl

/-- Row `r`'s keys as integers, over the whole array. -/
def rowKey (X : (⟨2, ![1024, 16384]⟩ : Shape).Idx → Bits .f32) (r : Fin 1024) (j : Fin 16384) : ℤ :=
  sInt (rnd (X (ix2 r j))) + (j.val : ℤ)

theorem rowKey_floor (r : Fin 1024) (j : Fin 16384) : rowKey X r j / 65536 * 65536 = sInt (rnd (X (ix2 r j))) := by
  have h := (sInt_rnd (X (ix2 r j))).1
  unfold rowKey
  generalize sInt (rnd (X (ix2 r j))) = s at h ⊢
  omega

theorem rowKey_inj (r : Fin 1024) : Function.Injective (rowKey X r) := by
  intro j j' h
  have h1 := (sInt_rnd (X (ix2 r j))).1
  have h2 := (sInt_rnd (X (ix2 r j'))).1
  unfold rowKey at h
  generalize sInt (rnd (X (ix2 r j))) = s at h h1
  generalize sInt (rnd (X (ix2 r j'))) = s' at h h2
  refine Fin.ext ?_
  omega

theorem gcol_inj (e : Dev nD) : Function.Injective (gcol e) := by
  intro j j' h
  have := congrArg Fin.val h
  refine Fin.ext ?_
  simp only [gcol] at this
  omega

theorem isNth_nth (hX : Blocks m X) (e : Dev nD) (r : Fin 1024) (hr : r.val / 256 = blockOf e) (n : ℕ) (hn : n < 32) :
    IsNth (fun j : Fin 8192 => rowKey X r (gcol e j)) n (nth m e n (locRow r)).toInt := by
  have hk : (fun j : Fin 8192 => (key0 m e (ix2 (locRow r) j)).toInt) = fun j => rowKey X r (gcol e j) :=
    funext fun j => key0_toInt hX e r hr j
  rw [← hk]
  refine isNth_rowMax (key0 m e) (locRow r) ?_ (fun j => ?_) n (by omega)
  · rw [hk]
    exact (rowKey_inj r).comp (gcol_inj e)
  · show _ < (key0 m e (ix2 (locRow r) j)).toInt
    rw [key0_toInt hX e r hr j]
    have h2 := (sInt_rnd (X (ix2 r (gcol e j)))).2.1
    have h3 : (2147483648#32 : BitVec 32).toInt = -2147483648 := by decide
    rw [h3]
    omega

theorem lanes_halves (e : Dev nD) (i : Fin 256) (l : ℕ) (hl : l < 32) :
    lanes (k0_pay131 (F := Bits) (half0 m e) (half1 m e)) i l
      = max (nth m e l i).toInt (nth m (peer 0 e) (31 - l) i).toInt := by
  rw [lanes_at _ i ⟨l, hl⟩, pay131_apply, SortNet.toInt_maxsi]
  rfl

theorem blockOf_peer (e : Dev nD) : blockOf (peer 0 e) = blockOf e := by revert e; decide
theorem yOf_peer (e : Dev nD) : yOf (peer 0 e) = 1 - yOf e := by revert e; decide

/-- The merged lanes are the whole row's keys in order. -/
theorem isNth_merge (hX : Blocks m X) (e : Dev nD) (r : Fin 1024) (hr : r.val / 256 = blockOf e) (l : ℕ) (hl : l < 32) :
    IsNth (rowKey X r) l (net (lanes (k0_pay131 (F := Bits) (half0 m e) (half1 m e)) (locRow r)) l) := by
  have hr' : r.val / 256 = blockOf (peer 0 e) := hr.trans (blockOf_peer e).symm
  have hy := yOf_lt e
  have lo : ∀ d : Dev nD, yOf d = 0 → ∀ j : Fin 8192, rowKey X r (Fin.castAdd 8192 j) = rowKey X r (gcol d j) := by
    intro d hd j
    refine congrArg (rowKey X r) (Fin.ext ?_)
    simp [gcol, hd]
  have hi : ∀ d : Dev nD, yOf d = 1 → ∀ j : Fin 8192, rowKey X r (Fin.natAdd 8192 j) = rowKey X r (gcol d j) := by
    intro d hd j
    refine congrArg (rowKey X r) (Fin.ext ?_)
    simp [gcol, hd, Nat.add_comm]
  by_cases h0 : yOf e = 0
  · exact isNth_net (n := 8192) (rowKey X r) (fun j => rowKey X r (gcol e j)) (fun j => rowKey X r (gcol (peer 0 e) j))
      (lo e h0) (hi _ (by rw [yOf_peer, h0]))
      (fun n => (nth m e n (locRow r)).toInt) (fun n => (nth m (peer 0 e) n (locRow r)).toInt) _
      (isNth_nth hX e r hr) (isNth_nth hX _ r hr') (Or.inl (lanes_halves e (locRow r))) l hl
  · have h1 : yOf e = 1 := by omega
    exact isNth_net (n := 8192) (rowKey X r) (fun j => rowKey X r (gcol (peer 0 e) j)) (fun j => rowKey X r (gcol e j))
      (lo _ (by rw [yOf_peer, h1])) (hi e h1)
      (fun n => (nth m (peer 0 e) n (locRow r)).toInt) (fun n => (nth m e n (locRow r)).toInt) _
      (isNth_nth hX _ r hr') (isNth_nth hX e r hr) (Or.inr (lanes_halves e (locRow r))) l hl

/-- A FINISHED ROW of a device is the reference's. -/
theorem done_eq (hX : Blocks m X) (e : Dev nD) (r : Fin 1024) (hr : r.val / 256 = blockOf e) (l : Fin 32) :
    done (F := Bits) m e (ix2 (locRow r) l) = refOut X (ix2 r l) := by
  obtain ⟨y, hy, hd⟩ := merge_lane (half0 m e) (half1 m e) (locRow r) l
  obtain ⟨v, hv, hn⟩ := ref_lane X r l
  have h := (isNth_merge hX e r hr l.val l.isLt).map (fun t : ℤ => t / 65536 * 65536) floor_mono
  have hf : (fun j => rowKey X r j / 65536 * 65536) = fun j => sInt (rnd (X (ix2 r j))) := funext fun j => rowKey_floor r j
  simp only [hf] at h
  rw [← hy] at h
  have hyv : y = sortable v := BitVec.eq_of_toInt_eq ((h.unique hn).trans (sortable_toInt v).symm)
  rw [hv, ← hyv]
  exact hd

theorem blockOf_devAt (c : Dev nD) (b : ℕ) (hb : b < 4) : blockOf (devAt c b) = b := by
  have h : ∀ b < 4, ∀ c : Dev nD, blockOf (devAt c b) = b := by decide
  exact h b hb c

/-- THE KERNEL'S RESULT, on every device, is the reference's. -/
theorem outC_eq (hX : Blocks m X) (c : Dev nD) : outC (F := Bits) m c = refOut X := by
  funext p
  have h0 : (p 0).val < 1024 := (p 0).isLt
  have e : refOut X p = refOut X (ix2 (p 0) (p 1)) := congrArg (refOut X) (eq_ix2 (n0 := 1024) (n1 := 32) p)
  rw [e]
  exact done_eq hX (devAt c ((p 0).val / 256)) (p 0) (blockOf_devAt c _ (by omega)).symm (p 1)

end Cert.KernelProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Reference
public import proofs.«01_k».proof.Proof.Gen.Reference.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.Reference.Gen.facts, by
  refine ⟨fun m g _ => ?_, fun m g _ => ?_, fun m g m' g' _ hX => ?_⟩
  · exact (θ_run _ _ _).mono (fun r h => ⟨fun c => (h.1 c).2, h.2⟩) (KernelProof.run_main m g)
  · exact (θ_run _ _ _).mono (fun r h =>
      ⟨fun c => (h c).2, Idealize.ShloMosaic.sem_eq_zero_of_no_sems (by decide) r.2⟩) (Cert.Reference.Value.run m g)
  · refine ⟨KernelProof.refOut (m' (((0 : Dev Cert.Reference.nD).tc : Thread Cert.Reference.nD Cert.Reference.τ).loc Cert.Reference.main_arg0)), ?_, ?_⟩
    · exact (θ_run _ _ _).mono (fun r h c =>
        ⟨(h.1 c).1.trans (KernelProof.outC_eq (m := m) hX c), (h.1 c).2⟩) (KernelProof.run_main m g)
    · exact (θ_run _ _ _).mono (fun r h => ⟨(h 0).1, (h 0).2⟩) (Cert.Reference.Value.run m' g')⟩

end Cert.Proof

end
